-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S8192x4096 : Shape := ⟨2, ![8192, 4096]⟩
abbrev S1024x4096 : Shape := ⟨2, ![1024, 4096]⟩
abbrev S8x1024x1024 : Shape := ⟨3, ![8, 1024, 1024]⟩
abbrev S7x1024x1024 : Shape := ⟨3, ![7, 1024, 1024]⟩
abbrev S2x1024x1024 : Shape := ⟨3, ![2, 1024, 1024]⟩
abbrev S2x128x4096 : Shape := ⟨3, ![2, 128, 4096]⟩
abbrev S2 : Shape := ⟨1, ![2]⟩
abbrev S8 : Shape := ⟨1, ![8]⟩
abbrev S_ : Shape := ⟨0, ![]⟩
abbrev S1 : Shape := ⟨1, ![1]⟩
abbrev S1x128x4096 : Shape := ⟨3, ![1, 128, 4096]⟩
abbrev S128x4096 : Shape := ⟨2, ![128, 4096]⟩
abbrev S1x1024x1024 : Shape := ⟨3, ![1, 1024, 1024]⟩
abbrev S1024x1024 : Shape := ⟨2, ![1024, 1024]⟩
abbrev S1x1024x128 : Shape := ⟨3, ![1, 1024, 128]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x4096, .f32⟩
  | .local _ .vmem, ⟨0, _⟩ => ⟨S1024x4096, .f32⟩
  | .local _ .vmem, ⟨1, _⟩ => ⟨S8x1024x1024, .bf16⟩
  | .local _ .vmem, ⟨2, _⟩ => ⟨S7x1024x1024, .bf16⟩
  | .local _ .vmem, ⟨3, _⟩ => ⟨S2x1024x1024, .f32⟩
  | .local _ .vmem, ⟨4, _⟩ => ⟨S2x128x4096, .f32⟩
  | .local _ .vmem, ⟨5, _⟩ => ⟨S2x128x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c8_i32_29 : BitVec 32) (c0_i32_31 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c8_i32_29
  let c8_i32_30 : BitVec 32 := 8#32
  let v33 : BitVec 32 := Scalar.remsi v32 c8_i32_30
  let c1024_i32 : BitVec 32 := 1024#32
  let v34 : BitVec 32 := Scalar.muli v33 c1024_i32
  let v35 : BitVec 32 := Scalar.addi v34 c0_i32_31
  let c0_i32_36 : BitVec 32 := 0#32
  ![v35.toNat, 0]
def k0_off1_at (r : Fin 10) : BitVec 32 × BitVec 32 :=
  if r.val < 5 then
    if r.val < 2 then
      if r.val < 1 then
        (8#32, 0#32)
      else
        (8#32, 128#32)
    else
      if r.val < 3 then
        (8#32, 256#32)
      else
        if r.val < 4 then
          (8#32, 384#32)
        else
          (8#32, 512#32)
  else
    if r.val < 7 then
      if r.val < 6 then
        (8#32, 640#32)
      else
        (8#32, 768#32)
    else
      if r.val < 8 then
        (8#32, 896#32)
      else
        if r.val < 9 then
          (7#32, 0#32)
        else
          (7#32, 128#32)
def k0_off2 (d0 : Dev nD) (c1_i32_45 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v50 : BitVec 32 := Scalar.addi v2 c1_i32_45
  let c8_i32_46 : BitVec 32 := 8#32
  let v51 : BitVec 32 := Scalar.remsi v50 c8_i32_46
  let c1024_i32_47 : BitVec 32 := 1024#32
  let v52 : BitVec 32 := Scalar.muli v51 c1024_i32_47
  let c0_i32_52 : BitVec 32 := 0#32
  ![v52.toNat, 0]
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v66 : BitVec 32 := Scalar.addi v2 c1_i32_61
  let c8_i32_62 : BitVec 32 := 8#32
  let v67 : BitVec 32 := Scalar.remsi v66 c8_i32_62
  let c1_i32_86 : BitVec 32 := 1#32
  let v88 : BitVec 32 := Scalar.muli v67 c1_i32_86
  let v89 : BitVec 32 := Scalar.addi c0_i32_87 v88
  v89.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_92 : BitVec 32 := 2#32
  let v98 : BitVec 32 := Scalar.addi v2 c2_i32_92
  let c8_i32_93 : BitVec 32 := 8#32
  let v99 : BitVec 32 := Scalar.remsi v98 c8_i32_93
  let c1_i32_117 : BitVec 32 := 1#32
  let v120 : BitVec 32 := Scalar.muli v99 c1_i32_117
  let v121 : BitVec 32 := Scalar.addi c0_i32_118 v120
  v121.toNat
def k0_dev10 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v130 : BitVec 32 := Scalar.addi v2 c3_i32_123
  let c8_i32_124 : BitVec 32 := 8#32
  let v131 : BitVec 32 := Scalar.remsi v130 c8_i32_124
  let c1_i32_148 : BitVec 32 := 1#32
  let v152 : BitVec 32 := Scalar.muli v131 c1_i32_148
  let v153 : BitVec 32 := Scalar.addi c0_i32_149 v152
  v153.toNat
def k0_dev11 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_154 : BitVec 32 := 4#32
  let v162 : BitVec 32 := Scalar.addi v2 c4_i32_154
  let c8_i32_155 : BitVec 32 := 8#32
  let v163 : BitVec 32 := Scalar.remsi v162 c8_i32_155
  let c1_i32_179 : BitVec 32 := 1#32
  let v184 : BitVec 32 := Scalar.muli v163 c1_i32_179
  let v185 : BitVec 32 := Scalar.addi c0_i32_180 v184
  v185.toNat
def k0_dev12 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_185 : BitVec 32 := 5#32
  let v194 : BitVec 32 := Scalar.addi v2 c5_i32_185
  let c8_i32_186 : BitVec 32 := 8#32
  let v195 : BitVec 32 := Scalar.remsi v194 c8_i32_186
  let c1_i32_210 : BitVec 32 := 1#32
  let v216 : BitVec 32 := Scalar.muli v195 c1_i32_210
  let v217 : BitVec 32 := Scalar.addi c0_i32_211 v216
  v217.toNat
def k0_dev13 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_216 : BitVec 32 := 6#32
  let v226 : BitVec 32 := Scalar.addi v2 c6_i32_216
  let c8_i32_217 : BitVec 32 := 8#32
  let v227 : BitVec 32 := Scalar.remsi v226 c8_i32_217
  let c1_i32_241 : BitVec 32 := 1#32
  let v248 : BitVec 32 := Scalar.muli v227 c1_i32_241
  let v249 : BitVec 32 := Scalar.addi c0_i32_242 v248
  v249.toNat
def k0_dev14 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_247 : BitVec 32 := 7#32
  let v258 : BitVec 32 := Scalar.addi v2 c7_i32_247
  let c8_i32_248 : BitVec 32 := 8#32
  let v259 : BitVec 32 := Scalar.remsi v258 c8_i32_248
  let c1_i32_264 : BitVec 32 := 1#32
  let v272 : BitVec 32 := Scalar.muli v259 c1_i32_264
  let v273 : BitVec 32 := Scalar.addi c0_i32_265 v272
  v273.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_270 : BitVec 32 := 1024#32
  let v282 : BitVec 32 := Scalar.muli v2 c1024_i32_270
  let c0_i32_275 : BitVec 32 := 0#32
  ![v282.toNat, 0]
@[reducible] def k0_t1_loop : Scf.Loop 32 :=
  let c1_i32_546 : BitVec 32 := 1#32
  let c7_i32_547 : BitVec 32 := 7#32
  let v555 : BitVec 32 := Scalar.addi c1_i32_546 c7_i32_547
  let c1_i32_548 : BitVec 32 := 1#32
  ⟨c1_i32_546, v555, c1_i32_548⟩
def k0_off4 (k0_t1 : Fin k0_t1_loop.trips) : Fin 1 → Nat :=
  let c1_i32_546 : BitVec 32 := 1#32
  let c1_i32_548 : BitVec 32 := 1#32
  let arg12 : BitVec 32 := Scf.iv c1_i32_546 c1_i32_548 k0_t1
  ![arg12.toNat]
def k0_off5 (k0_t1 : Fin k0_t1_loop.trips) : Fin 3 → Nat :=
  let c1_i32_546 : BitVec 32 := 1#32
  let c1_i32_548 : BitVec 32 := 1#32
  let arg12 : BitVec 32 := Scf.iv c1_i32_546 c1_i32_548 k0_t1
  let c0_i32_617 : BitVec 32 := 0#32
  let c0_i32_618 : BitVec 32 := 0#32
  ![arg12.toNat, 0, 0]
def k0_off6 (d0 : Dev nD) (k0_t1 : Fin k0_t1_loop.trips) (c0_i32_624 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_621 : BitVec 32 := 8#32
  let c1_i32_546 : BitVec 32 := 1#32
  let c1_i32_548 : BitVec 32 := 1#32
  let arg12 : BitVec 32 := Scf.iv c1_i32_546 c1_i32_548 k0_t1
  let v606 : BitVec 32 := Scalar.subi c8_i32_621 arg12
  let v607 : BitVec 32 := Scalar.addi v2 v606
  let c8_i32_622 : BitVec 32 := 8#32
  let v608 : BitVec 32 := Scalar.remsi v607 c8_i32_622
  let c1024_i32_623 : BitVec 32 := 1024#32
  let v609 : BitVec 32 := Scalar.muli v608 c1024_i32_623
  let v610 : BitVec 32 := Scalar.addi v609 c0_i32_624
  let c0_i32_629 : BitVec 32 := 0#32
  ![v610.toNat, 0]
def k0_off7 (k0_t1 : Fin k0_t1_loop.trips) : Fin 3 → Nat :=
  let c1_i32_546 : BitVec 32 := 1#32
  let c1_i32_548 : BitVec 32 := 1#32
  let arg12 : BitVec 32 := Scf.iv c1_i32_546 c1_i32_548 k0_t1
  let v632 : Index := Scalar.indexCast arg12
  let c0_645 : Index := 0#32
  let c0_646 : Index := 0#32
  ![v632.toNat, 0, 0]
def k0_off8 (k0_t1 : Fin k0_t1_loop.trips) : Fin 3 → Nat :=
  let c1_i32_546 : BitVec 32 := 1#32
  let c1_i32_548 : BitVec 32 := 1#32
  let arg12 : BitVec 32 := Scf.iv c1_i32_546 c1_i32_548 k0_t1
  let v668 : Index := Scalar.indexCast arg12
  let c0_679 : Index := 0#32
  let c128_680 : Index := 128#32
  ![v668.toNat, 0, 128]
def k0_off9 (k0_t1 : Fin k0_t1_loop.trips) : Fin 3 → Nat :=
  let c1_i32_546 : BitVec 32 := 1#32
  let c1_i32_548 : BitVec 32 := 1#32
  let arg12 : BitVec 32 := Scf.iv c1_i32_546 c1_i32_548 k0_t1
  let v704 : Index := Scalar.indexCast arg12
  let c0_713 : Index := 0#32
  let c256_714 : Index := 256#32
  ![v704.toNat, 0, 256]
def k0_off10 (k0_t1 : Fin k0_t1_loop.trips) : Fin 3 → Nat :=
  let c1_i32_546 : BitVec 32 := 1#32
  let c1_i32_548 : BitVec 32 := 1#32
  let arg12 : BitVec 32 := Scf.iv c1_i32_546 c1_i32_548 k0_t1
  let v740 : Index := Scalar.indexCast arg12
  let c0_747 : Index := 0#32
  let c384_748 : Index := 384#32
  ![v740.toNat, 0, 384]
def k0_off11 (k0_t1 : Fin k0_t1_loop.trips) : Fin 3 → Nat :=
  let c1_i32_546 : BitVec 32 := 1#32
  let c1_i32_548 : BitVec 32 := 1#32
  let arg12 : BitVec 32 := Scf.iv c1_i32_546 c1_i32_548 k0_t1
  let v776 : Index := Scalar.indexCast arg12
  let c0_781 : Index := 0#32
  let c512_782 : Index := 512#32
  ![v776.toNat, 0, 512]
def k0_off12 (k0_t1 : Fin k0_t1_loop.trips) : Fin 3 → Nat :=
  let c1_i32_546 : BitVec 32 := 1#32
  let c1_i32_548 : BitVec 32 := 1#32
  let arg12 : BitVec 32 := Scf.iv c1_i32_546 c1_i32_548 k0_t1
  let v812 : Index := Scalar.indexCast arg12
  let c0_815 : Index := 0#32
  let c640_816 : Index := 640#32
  ![v812.toNat, 0, 640]
def k0_cond1 (k0_t1 : Fin k0_t1_loop.trips) : BitVec 1 :=
  let c1_i32_546 : BitVec 32 := 1#32
  let c1_i32_548 : BitVec 32 := 1#32
  let arg12 : BitVec 32 := Scf.iv c1_i32_546 c1_i32_548 k0_t1
  let c7_i32_841 : BitVec 32 := 7#32
  let v839 : BitVec 1 := Scalar.cmpi .ne arg12 c7_i32_841
  let v840 : BitVec 32 := Scalar.extui v839
  let c0_i32_842 : BitVec 32 := 0#32
  let v841 : BitVec 1 := Scalar.cmpi .ne v840 c0_i32_842
  v841

def k0_off13 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_881 : BitVec 32 := 8#32
  let c1_i32_546 : BitVec 32 := 1#32
  let c1_i32_548 : BitVec 32 := 1#32
  let arg12 : BitVec 32 := Scf.iv c1_i32_546 c1_i32_548 k0_t1
  let c1_i32_840 : BitVec 32 := 1#32
  let v838 : BitVec 32 := Scalar.addi arg12 c1_i32_840
  let v882 : BitVec 32 := Scalar.subi c8_i32_881 v838
  let v883 : BitVec 32 := Scalar.addi v2 v882
  let c8_i32_882 : BitVec 32 := 8#32
  let v884 : BitVec 32 := Scalar.remsi v883 c8_i32_882
  let c1024_i32_883 : BitVec 32 := 1024#32
  let v885 : BitVec 32 := Scalar.muli v884 c1024_i32_883
  let c0_i32_884 : BitVec 32 := 0#32
  let v886 : BitVec 32 := Scalar.addi v885 c0_i32_884
  let c0_i32_889 : BitVec 32 := 0#32
  ![v886.toNat, 0]
def k0_off14 (k0_t1 : Fin k0_t1_loop.trips) : Fin 3 → Nat :=
  let c1_i32_546 : BitVec 32 := 1#32
  let c1_i32_548 : BitVec 32 := 1#32
  let arg12 : BitVec 32 := Scf.iv c1_i32_546 c1_i32_548 k0_t1
  let v842 : Index := Scalar.indexCast arg12
  let c0_843 : Index := 0#32
  let c768_844 : Index := 768#32
  ![v842.toNat, 0, 768]
def k0_cond2 (k0_t1 : Fin k0_t1_loop.trips) : BitVec 1 :=
  let c1_i32_546 : BitVec 32 := 1#32
  let c1_i32_548 : BitVec 32 := 1#32
  let arg12 : BitVec 32 := Scf.iv c1_i32_546 c1_i32_548 k0_t1
  let c7_i32_869 : BitVec 32 := 7#32
  let v869 : BitVec 1 := Scalar.cmpi .ne arg12 c7_i32_869
  let v870 : BitVec 32 := Scalar.extui v869
  let c0_i32_870 : BitVec 32 := 0#32
  let v871 : BitVec 1 := Scalar.cmpi .ne v870 c0_i32_870
  v871

def k0_off15 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_881 : BitVec 32 := 8#32
  let c1_i32_546 : BitVec 32 := 1#32
  let c1_i32_548 : BitVec 32 := 1#32
  let arg12 : BitVec 32 := Scf.iv c1_i32_546 c1_i32_548 k0_t1
  let c1_i32_868 : BitVec 32 := 1#32
  let v868 : BitVec 32 := Scalar.addi arg12 c1_i32_868
  let v882 : BitVec 32 := Scalar.subi c8_i32_881 v868
  let v883 : BitVec 32 := Scalar.addi v2 v882
  let c8_i32_882 : BitVec 32 := 8#32
  let v884 : BitVec 32 := Scalar.remsi v883 c8_i32_882
  let c1024_i32_883 : BitVec 32 := 1024#32
  let v885 : BitVec 32 := Scalar.muli v884 c1024_i32_883
  let c128_i32_884 : BitVec 32 := 128#32
  let v886 : BitVec 32 := Scalar.addi v885 c128_i32_884
  let c0_i32_889 : BitVec 32 := 0#32
  ![v886.toNat, 0]
def k0_off16 (k0_t1 : Fin k0_t1_loop.trips) : Fin 3 → Nat :=
  let c1_i32_546 : BitVec 32 := 1#32
  let c1_i32_548 : BitVec 32 := 1#32
  let arg12 : BitVec 32 := Scf.iv c1_i32_546 c1_i32_548 k0_t1
  let v872 : Index := Scalar.indexCast arg12
  let c0_871 : Index := 0#32
  let c896_872 : Index := 896#32
  ![v872.toNat, 0, 896]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Slots.lean ====
/-
The buffers of the kernel cut into the slots its copies go through, and what one step of the body does to them.

A slot is owned at the two-axis array read through it (`ownsTc c slot fullShare v`); the lemmas below say, for the
few groups of operations the body is built of, how the arrays in the slots change.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The state of the rounds: duties are named by a distance on the ring of devices. -/
abbrev UB : Type := URounds (GSem nD τ sig) (Fin 8)
/-- The ghost state: the pipeline's, the rounds', and the counters of the local copies. -/
abbrev UU : Type := UR sig nD τ × (UB × Counters)

local notation "𝕄" => MT nD τ sig Unit (Elt F) ℕ UU ℕ

/-- Where the pipeline's ghost state lies, -/
abbrev EP : Emb (UR sig nD τ) (MT nD τ sig Unit (Elt F) ℕ UU ℕ) := embL
/-- where the rounds' does, -/
abbrev ER : Emb UB (MT nD τ sig Unit (Elt F) ℕ UU ℕ) :=
  ((UEmb.inl : UEmb UB (UB × Counters)).trans ((UEmb.inr : UEmb (UB × Counters) UU).trans
    (uEmb (nD := nD) (τ := τ) (sig := sig) (Ix := Unit) (Val := Elt F) (Name := ℕ) (U := UU) (Lvl := ℕ)))).toEmb
/-- and where the counters of the local copies do. -/
abbrev EC : UEmb Counters (MT nD τ sig Unit (Elt F) ℕ UU ℕ) := countersEmb

/-- No variants are in use. -/
abbrev 𝒱₀ : Variants := Variants.none

/-! ## The buffers -/

/-- The device's columns of the input, -/
abbrev xM : Memref sig .tc .hbm S8192x1024 .f32 := Memref.whole main_arg0
/-- the weights, -/
abbrev wM : Memref sig .tc .hbm S8192x4096 .f32 := Memref.whole main_arg1
/-- the result's staging buffer, -/
abbrev oM : Memref sig .tc .vmem S1024x4096 .f32 := Memref.whole cc0_stg0_0
/-- the gathered blocks, -/
abbrev xgM : Memref sig .tc .vmem S8x1024x1024 .bf16 := Memref.whole cc0_scratch0
/-- the blocks to be sent, -/
abbrev xsM : Memref sig .tc .vmem S7x1024x1024 .bf16 := Memref.whole cc0_scratch1
/-- the blocks as fetched, -/
abbrev stM : Memref sig .tc .vmem S2x1024x1024 .f32 := Memref.whole cc0_scratch2
/-- the chunks of the weights as fetched, -/
abbrev wfM : Memref sig .tc .vmem S2x128x4096 .f32 := Memref.whole cc0_scratch3
/-- and the chunks narrowed. -/
abbrev wbM : Memref sig .tc .vmem S2x128x4096 .bf16 := Memref.whole cc0_scratch4

/-- Slot `i` of a stack of `n` arrays lies in the stack. -/
theorem slot_inb {n a b i : Nat} (h : i < n) :
    ∀ x, (![i, 0, 0] : Fin 3 → Nat) x + (⟨3, ![1, a, b]⟩ : Shape).size x ≤ (⟨3, ![n, a, b]⟩ : Shape).size x := by
  intro x; fin_cases x
  · show i + 1 ≤ n; omega
  · show 0 + a ≤ a; omega
  · show 0 + b ≤ b; omega

section Slot
variable {n a b : Nat} {e : EltTy}

/-- Slot `i` of a stack of `n` two-axis arrays. -/
abbrev slot (M : Memref sig .tc .vmem ⟨3, ![n, a, b]⟩ e) (sq : (⟨3, ![1, a, b]⟩ : Shape).Squeezes ⟨2, ![a, b]⟩)
    (off : Fin 3 → Nat) (h : ∀ x, off x + (⟨3, ![1, a, b]⟩ : Shape).size x ≤ (⟨3, ![n, a, b]⟩ : Shape).size x) :
    Memref sig .tc .vmem ⟨2, ![a, b]⟩ e :=
  (M.slice (Rect.unit (s := ⟨3, ![n, a, b]⟩) off (⟨3, ![1, a, b]⟩ : Shape).size h) (fun _ => rfl)).squeeze ⟨2, ![a, b]⟩ sq

end Slot

/-- Slot `i` of the gathered blocks, -/
abbrev xgS (i : Nat) (h : i < 8) : Memref sig .tc .vmem S1024x1024 .bf16 :=
  slot xgM squeezes_S1x1024x1024_S1024x1024 ![i, 0, 0] (slot_inb h)
/-- of the blocks to be sent, -/
abbrev xsS (i : Nat) (h : i < 7) : Memref sig .tc .vmem S1024x1024 .bf16 :=
  slot xsM squeezes_S1x1024x1024_S1024x1024 ![i, 0, 0] (slot_inb h)
/-- of the blocks as fetched, -/
abbrev stS (i : Nat) (h : i < 2) : Memref sig .tc .vmem S1024x1024 .f32 :=
  slot stM squeezes_S1x1024x1024_S1024x1024 ![i, 0, 0] (slot_inb h)
/-- of the chunks as fetched, -/
abbrev wfS (i : Nat) (h : i < 2) : Memref sig .tc .vmem S128x4096 .f32 :=
  slot wfM squeezes_S1x128x4096_S128x4096 ![i, 0, 0] (slot_inb h)
/-- and of the chunks narrowed. -/
abbrev wbS (i : Nat) (h : i < 2) : Memref sig .tc .vmem S128x4096 .bf16 :=
  slot wbM squeezes_S1x128x4096_S128x4096 ![i, 0, 0] (slot_inb h)

/-! ## Loads and stores of a slot through its stack -/

section Access
variable {n a b : Nat} {e : EltTy} (c : Dev nD) (M : Memref sig .tc .vmem ⟨3, ![n, a, b]⟩ e)
  (sq : (⟨3, ![1, a, b]⟩ : Shape).Squeezes ⟨2, ![a, b]⟩) (off : Fin 3 → Nat)
  (h : ∀ x, off x + (⟨3, ![1, a, b]⟩ : Shape).size x ≤ (⟨3, ![n, a, b]⟩ : Shape).size x)
  {Q : PUnit.{1} → sProp (MT nD τ sig Unit (Elt F) ℕ UU ℕ)}

/-- The slot's elements are those of its box. -/
theorem slot_set : (slot M sq off h).view.set
    = (M.access (Rect.unit (s := ⟨3, ![n, a, b]⟩) off (⟨3, ![1, a, b]⟩ : Shape).size h)).set :=
  View.set_reshape _ _

/-- The array a slot's box reads, the leading axis dropped, is the array the slot reads. -/
theorem read_slot (f : M.view.ty.Contents (Elt F)) :
    (slot M sq off h).view.read (Elt F) f
      = shapeCast ⟨2, ![a, b]⟩ ((M.view.slice (Rect.unit (s := ⟨3, ![n, a, b]⟩) off (⟨3, ![1, a, b]⟩ : Shape).size h)).read (Elt F) f)
          sq.numel_eq := rfl

/-- Loading a slot's box yields the slot's array with a leading axis of size one. -/
theorem wp_load_slot {hl} {k} (v : (⟨2, ![a, b]⟩ : Shape).Idx → Elt F e) :
    (ownsTc c (slot M sq off h) fullShare v : sProp 𝕄)
      ⊢ iprop((ownsTc c (slot M sq off h) fullShare v
            -∗ wp frame (wpE (defs₀ (F := F)) 𝒱₀ (c : Thread nD τ) none) Set.univ
                (k (shapeCast ⟨3, ![1, a, b]⟩ v sq.numel_eq.symm)) Q)
          -∗ wp frame (wpE (defs₀ (F := F)) 𝒱₀ (c : Thread nD τ) none) Set.univ
              (.op (.load M (Rect.unit (s := ⟨3, ![n, a, b]⟩) off (⟨3, ![1, a, b]⟩ : Shape).size h).toLoadRect hl) k) Q) := by
  unfold ownsTc owns
  iintro ⟨%f, %hf, H⟩ Hk
  have hv : M.view.readAt (Elt F) (Rect.unit (s := ⟨3, ![n, a, b]⟩) off (⟨3, ![1, a, b]⟩ : Shape).size h).toLoadRect f
      = shapeCast ⟨3, ![1, a, b]⟩ v sq.numel_eq.symm := by
    rw [← hf, read_slot]
    exact (shapeCast_shapeCast _ _ _).symm
  iapply (wp_load 𝒱₀ (c : Thread nD τ) none Set.univ (m := M) (S := (slot M sq off h).view.set) (q := fullShare) (f := f)
    (by rw [slot_set, View.set_slice]; exact Finset.Subset.refl _)) $$ H
  iintro H
  rw [hv]
  iapply Hk
  iexists f
  isplitr; · ipureintro; exact hf
  iexact H

/-- Storing an array through a slot's box leaves the slot holding it, the leading axis dropped. -/
theorem wp_store_slot {hx} {hm} {k} (v : (⟨2, ![a, b]⟩ : Shape).Idx → Elt F e) (w : (⟨3, ![1, a, b]⟩ : Shape).Idx → Elt F e) :
    (ownsTc c (slot M sq off h) fullShare v : sProp 𝕄)
      ⊢ iprop((ownsTc c (slot M sq off h) fullShare (shapeCast ⟨2, ![a, b]⟩ w sq.numel_eq)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := ⟨3, ![n, a, b]⟩) off (⟨3, ![1, a, b]⟩ : Shape).size h) w Finset.univ hx hm) k) Q) := by
  unfold ownsTc owns
  iintro ⟨%f, %hf, H⟩ Hk
  iapply (wp_store 𝒱₀ (c : Thread nD τ) none Set.univ (m := M)
    (r := Rect.unit (s := ⟨3, ![n, a, b]⟩) off (⟨3, ![1, a, b]⟩ : Shape).size h) (Mk := Finset.univ) (S := (slot M sq off h).view.set) (f := f)
    (by rw [slot_set]; exact Finset.Subset.refl _)) $$ H
  iintro H
  iapply Hk
  iexists ((M.access (Rect.unit (s := ⟨3, ![n, a, b]⟩) off (⟨3, ![1, a, b]⟩ : Shape).size h)).write (Elt F) f w Finset.univ)
  isplitr
  · ipureintro
    rw [read_slot]
    exact congrArg (fun z => shapeCast ⟨2, ![a, b]⟩ z sq.numel_eq) (View.read_write_univ _ _)
  iexact H

end Access

/-! ## Parts of arrays -/

/-- A box of unit strides places an index at its offset plus the index. -/
theorem unit_emb_val {s : Shape} (off size : Fin s.rank → Nat) (inb) (j : (Rect.unit off size inb).shape.Idx) (x : Fin s.rank) :
    ((Rect.unit off size inb).emb j x).val = off x + (j x).val := by
  show off x + 1 * (j x).val = _
  rw [Nat.one_mul]

/-- `128` columns of a `1024`-column array, from column `n`. -/
def colsAt {α : Type} (v : S1024x1024.Idx → α) (n : Nat) : S1024x128.Idx → α :=
  fun j => v (Shape.pair (j 0) ⟨(n + (j 1).val) % 1024, Nat.mod_lt _ (by decide)⟩)

/-- `128` rows of the weights, from row `r`. -/
def wRows {α : Type} (w : S8192x4096.Idx → α) (r : Nat) : S128x4096.Idx → α :=
  fun j => w (Shape.pair ⟨(r + (j 0).val) % 8192, Nat.mod_lt _ (by decide)⟩ (j 1))

/-- `1024` rows of the input, from row `r`. -/
def xRows {α : Type} (x : S8192x1024.Idx → α) (r : Nat) : S1024x1024.Idx → α :=
  fun j => x (Shape.pair ⟨(r + (j 0).val) % 8192, Nat.mod_lt _ (by decide)⟩ (j 1))

/-- A window of 128 rows of the weights reads those rows. -/
theorem read_wRows (off : Fin 2 → Nat) (r : Nat) (hoff : off = ![r, 0])
    (h : ∀ x, off x + S128x4096.size x ≤ S8192x4096.size x) (f : S8192x4096.Idx → Elt F .f32) :
    (wM.slice (Rect.unit (s := S8192x4096) off S128x4096.size h) (fun _ => rfl)).view.read (Elt F) f = wRows f r := by
  subst hoff
  have h0 : r + 128 ≤ 8192 := h 0
  funext j
  refine congrArg f (funext fun x => Fin.ext ?_)
  have hj : (j 0).val < 128 := (j 0).isLt
  fin_cases x
  · exact (unit_emb_val _ _ _ _ _).trans (show r + (j 0).val = (r + (j 0).val) % 8192 by rw [Nat.mod_eq_of_lt (by omega)])
  · exact (unit_emb_val _ _ _ _ _).trans (Nat.zero_add _)

/-- A window of 1024 rows of the input reads those rows. -/
theorem read_xRows (off : Fin 2 → Nat) (r : Nat) (hoff : off = ![r, 0])
    (h : ∀ x, off x + S1024x1024.size x ≤ S8192x1024.size x) (f : S8192x1024.Idx → Elt F .f32) :
    (xM.slice (Rect.unit (s := S8192x1024) off S1024x1024.size h) (fun _ => rfl)).view.read (Elt F) f = xRows f r := by
  subst hoff
  have h0 : r + 1024 ≤ 8192 := h 0
  funext j
  refine congrArg f (funext fun x => Fin.ext ?_)
  have hj : (j 0).val < 1024 := (j 0).isLt
  fin_cases x
  · exact (unit_emb_val _ _ _ _ _).trans (show r + (j 0).val = (r + (j 0).val) % 8192 by rw [Nat.mod_eq_of_lt (by omega)])
  · exact (unit_emb_val _ _ _ _ _).trans (Nat.zero_add _)

/-- The box of `128` columns of slot `i`, at an index. -/
theorem cols_emb (i n : Nat) (hi : i < 8) (hn : n + 128 ≤ 1024)
    (h : ∀ x, (![i, 0, n] : Fin 3 → Nat) x + S1x1024x128.size x ≤ S8x1024x1024.size x) (y : S1x1024x128.Idx) :
    (Rect.unit (s := S8x1024x1024) ![i, 0, n] S1x1024x128.size h).emb y
      = (Rect.unit (s := S8x1024x1024) ![i, 0, 0] S1x1024x1024.size (slot_inb hi)).emb
          (Fin.cons ⟨0, Nat.one_pos⟩ (Shape.pair (d := ![1024, 1024]) (y 1)
            ⟨(n + (y 2).val) % 1024, Nat.mod_lt _ (by decide)⟩) : S1x1024x1024.Idx) := by
  have h0 : (y 0).val < 1 := (y 0).isLt
  have h2 : (y 2).val < 128 := (y 2).isLt
  funext x
  refine Fin.ext ?_
  rw [unit_emb_val, unit_emb_val]
  fin_cases x
  · show i + (y 0).val = i + 0; omega
  · rfl
  · exact (show n + (y 2).val = 0 + (n + (y 2).val) % 1024 by rw [Nat.mod_eq_of_lt (by omega)]; omega)

/-- 128 columns of slot `i` lie in the slot. -/
theorem cols_set (i n : Nat) (hi : i < 8) (hn : n + 128 ≤ 1024)
    (h : ∀ x, (![i, 0, n] : Fin 3 → Nat) x + S1x1024x128.size x ≤ S8x1024x1024.size x) :
    (xgM.access (Rect.unit (s := S8x1024x1024) ![i, 0, n] S1x1024x128.size h)).set ⊆ (xgS i hi).view.set := by
  rw [slot_set]
  intro z hz
  obtain ⟨y, -, rfl⟩ := Finset.mem_map.mp hz
  show xgM.view.emb ((Rect.unit (s := S8x1024x1024) ![i, 0, n] S1x1024x128.size h).emb y) ∈ _
  rw [cols_emb i n hi hn h y]
  exact View.emb_mem_set (xgM.access (Rect.unit (s := S8x1024x1024) ![i, 0, 0] S1x1024x1024.size (slot_inb hi))) _

/-- Reading them through the whole stack gives those columns of what the slot holds. -/
theorem cols_read (f : xgM.view.ty.Contents (Elt F)) (i n : Nat) (hi : i < 8) (hn : n + 128 ≤ 1024)
    (h : ∀ x, (![i, 0, n] : Fin 3 → Nat) x + S1x1024x128.size x ≤ S8x1024x1024.size x) :
    shapeCast S1x1024x128 (colsAt ((xgS i hi).view.read (Elt F) f) n) shapeCasts_S1x1024x128_S1024x128.symm
      = (xgM.view.slice (Rect.unit (s := S8x1024x1024) ![i, 0, n] S1x1024x128.size h)).read (Elt F) f := by
  funext y
  rw [shapeCast_addUnit_apply ![1024, 128]]
  show f ((Rect.unit (s := S8x1024x1024) ![i, 0, 0] S1x1024x1024.size (slot_inb hi)).emb (Shape.reshapeEquiv _ _))
    = f ((Rect.unit (s := S8x1024x1024) ![i, 0, n] S1x1024x128.size h).emb y)
  rw [cols_emb i n hi hn h y]
  exact congrArg (fun z => f ((Rect.unit (s := S8x1024x1024) ![i, 0, 0] S1x1024x1024.size (slot_inb hi)).emb z))
    (Shape.reshapeEquiv_cons_one (d := ![1024, 1024]) _ _)

/-- Loading `128` columns of a slot of the gathered blocks. -/
theorem wp_load_cols (c : Dev nD) (i n : Nat) (hi : i < 8) (off : Fin 3 → Nat) (hoff : off = ![i, 0, n])
    (h : ∀ x, off x + S1x1024x128.size x ≤ S8x1024x1024.size x) {hl} {k} {Q : PUnit.{1} → sProp 𝕄}
    (v : S1024x1024.Idx → Elt F .bf16) :
    (ownsTc c (xgS i hi) fullShare v : sProp 𝕄)
      ⊢ iprop((ownsTc c (xgS i hi) fullShare v
            -∗ wp frame (wpE (defs₀ (F := F)) 𝒱₀ (c : Thread nD τ) none) Set.univ
                (k (shapeCast S1x1024x128 (colsAt v n) shapeCasts_S1x1024x128_S1024x128.symm)) Q)
          -∗ wp frame (wpE (defs₀ (F := F)) 𝒱₀ (c : Thread nD τ) none) Set.univ
              (.op (.load xgM (Rect.unit (s := S8x1024x1024) off S1x1024x128.size h).toLoadRect hl) k) Q) := by
  subst hoff
  have hn : n + 128 ≤ 1024 := h 2
  unfold ownsTc owns
  iintro ⟨%f, %hf, H⟩ Hk
  have hv : xgM.view.readAt (Elt F) (Rect.unit (s := S8x1024x1024) ![i, 0, n] S1x1024x128.size h).toLoadRect f
      = shapeCast S1x1024x128 (colsAt v n) shapeCasts_S1x1024x128_S1024x128.symm := by
    rw [← hf]
    exact (cols_read f i n hi hn h).symm
  iapply (wp_load 𝒱₀ (c : Thread nD τ) none Set.univ (m := xgM) (S := (xgS i hi).view.set) (q := fullShare) (f := f)
    (by have hc := cols_set i n hi hn h; rw [View.set_slice] at hc; exact hc)) $$ H
  iintro H
  rw [hv]
  iapply Hk
  iexists f
  isplitr; · ipureintro; exact hf
  iexact H

/-! ## Copies from the arguments into a slot -/

/-- A copy in flight that will also deliver what is set aside beside it. -/
theorem flight_frame (c : Dev nD) {sm : SemLoc sig} {n : ℕ} {D R : sProp 𝕄} :
    iprop(Flight EC (c : Thread nD τ) sm () n D ∗ R) ⊢ (Flight EC (c : Thread nD τ) sm () n iprop(D ∗ R) : sProp 𝕄) := by
  unfold Flight
  iintro ⟨⟨⟨%A, HA, %h1, %h2⟩, Hc⟩, HR⟩
  isplitr [Hc]
  · iexists iprop(A ∗ R)
    isplitl [HA HR]; · isplitl [HA] <;> iassumption
    isplit <;> ipureintro
    · intro K
      iintro ⟨⟨HA, HR⟩, HK⟩
      iapply (h1 K)
      isplitl [HA]; · iexact HA
      iintro ⟨Hs, HD⟩
      iapply HK
      isplitl [Hs]; · iexact Hs
      isplitl [HD] <;> iassumption
    · intro K
      iintro ⟨⟨HA, HR⟩, HK⟩
      iapply (h2 K)
      isplitl [HA]; · iexact HA
      iintro HA
      iapply HK
      isplitl [HA] <;> iassumption
  · iexact Hc

/-- A copy in flight into `dst` on the cell `sm`: at its wait `dst` holds `u` and the source's share `T` is back. -/
abbrev Fly (c : Dev nD) (sm : DmaSem sig) {s : Shape} {e : EltTy} (dst : Memref sig .tc .vmem s e) (u : s.Idx → Elt F e)
    (T : sProp 𝕄) : sProp 𝕄 :=
  Flight EC (c : Thread nD τ) (.dma sm) () dst.view.dmaCredit iprop(ownsTc c dst fullShare u ∗ T)

section Fetch
variable {s s₀ : Shape} {e : EltTy} (c : Dev nD) (M : Memref sig .tc .hbm s₀ e) (r : Rect s₀) (hr : ∀ a, r.stride a = 1)
  (dst : Memref sig .tc .vmem r.shape e) (sm : DmaSem sig) {Q : PUnit.{1} → sProp (MT nD τ sig Unit (Elt F) ℕ UU ℕ)}

/-- Starting a copy of a box of an argument, a share of the whole argument given up until the wait. -/
theorem wp_fetch {h1 h2 h3} {k} (hpos : 0 < r.shape.numel) (S : Finset (Idx (M.view.loc (c : Thread nD τ))))
    (hS : (M.slice r hr).view.set ⊆ S) (q : PosShare TreeShare) (f : Buf (Elt F) (M.view.loc (c : Thread nD τ)))
    (u : r.shape.Idx → Elt F e) (hu : (M.slice r hr).view.read (Elt F) f = u) (v : r.shape.Idx → Elt F e) :
    iprop((M.view.loc (c : Thread nD τ) ↦[S]{q} f) ∗ ownsTc c dst fullShare v ∗ semVal ((c : Thread nD τ), .dma sm) 0)
      ⊢ iprop((Fly c sm dst u (M.view.loc (c : Thread nD τ) ↦[S]{q} f)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M.slice r hr) (.here dst) (.dma sm) h1 h2 h3) k) Q) := by
  unfold ownsTc owns
  iintro ⟨HM, ⟨%fd, %hfd, Hd⟩, Hv⟩ Hk
  ihave H := (pointsTo_split_subset hS).1 $$ HM
  icases H with ⟨Hs, Hr⟩
  iapply (Transfers.wp_dmaLocal EC 𝒱₀ (c : Thread nD τ) none () dst.view.dmaCredit rfl (View.dmaCredit_pos _ hpos)
    (Finset.Subset.refl dst.view.set)) $$ [Hs Hd Hv]
  · isplitl [Hs]; · iexact Hs
    isplitl [Hd] <;> iassumption
  iintro HF
  iapply Hk
  have hj : iprop((M.view.loc (c : Thread nD τ) ↦[(M.slice r hr).view.set]{q} f)
        ∗ (M.view.loc (c : Thread nD τ) ↦[S \ (M.slice r hr).view.set]{q} f))
      ⊢ (M.view.loc (c : Thread nD τ) ↦[S]{q} f : sProp 𝕄) := (pointsTo_split_subset hS).2
  have hm : iprop((((dst.view.loc (c : Thread nD τ)) ↦[dst.view.set]{fullShare} View.write (Elt F) dst.view fd
          (ReadAs.same.apply (View.read (Elt F) (M.slice r hr).view f)) Finset.univ)
        ∗ (M.view.loc (c : Thread nD τ) ↦[(M.slice r hr).view.set]{q} f))
        ∗ (M.view.loc (c : Thread nD τ) ↦[S \ (M.slice r hr).view.set]{q} f))
      ⊢ (iprop(ownsTc c dst fullShare u ∗ (M.view.loc (c : Thread nD τ) ↦[S]{q} f)) : sProp 𝕄) := by
    unfold ownsTc owns
    iintro ⟨⟨Hd, Hs⟩, Hr⟩
    isplitl [Hd]
    · iexists (View.write (Elt F) dst.view fd (ReadAs.same.apply (View.read (Elt F) (M.slice r hr).view f)) Finset.univ)
      isplitr
      · ipureintro
        exact (View.read_write_univ _ _).trans hu
      iexact Hd
    · iapply hj
      isplitl [Hs] <;> iassumption
  iapply (Flight_mono EC (c : Thread nD τ) hm)
  iapply (flight_frame c)
  isplitl [HF]; · iexact HF
  iexact Hr

end Fetch

/-- Owing `O`, whatever has been waited for. -/
abbrev owe (c : Dev nD) (O : CellTallies nD τ sig Unit) : sProp 𝕄 := iprop(∃ W, owes (c : Thread nD τ) O W)

/-- Waiting for a copy: the slot, the source's share and the cell's counter at zero are back. -/
theorem wp_landed {s s' : Shape} {e e' : EltTy} {sp' : Space} (c : Dev nD) (srcw : Memref sig .tc sp' s' e')
    (dst : Memref sig .tc .vmem s e) (sm : DmaSem sig) {h1 h2} {k} {Q : PUnit.{1} → sProp 𝕄} (u : s.Idx → Elt F e) (T : sProp 𝕄)
    (O : CellTallies nD τ sig Unit) :
    iprop(Fly c sm dst u T ∗ owe c O ∗ MayWait (c : Thread nD τ) (.dma sm) () O)
      ⊢ iprop(((ownsTc c dst fullShare u ∗ T ∗ semVal ((c : Thread nD τ), .dma sm) 0 ∗ owe c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dst h1 h2) k) Q) := by
  iintro ⟨HF, ⟨%W, HO⟩, HM⟩ Hk
  iapply (Transfers.wp_waitLocalO EC 𝒱₀ (c : Thread nD τ) none () rfl) $$ [HF HO HM]
  · isplitl [HF]; · iexact HF
    isplitl [HO] <;> iassumption
  iintro ⟨⟨Hd, HT⟩, Hv, HO⟩
  iapply Hk
  isplitl [Hd]; · iexact Hd
  isplitl [HT]; · iexact HT
  isplitl [Hv]; · iexact Hv
  iexists _; iexact HO

/-! ## The groups of operations the body repeats -/

/-- An `f32` array narrowed to `bf16`. -/
def narrow {s : Shape} (v : s.Idx → Elt F .f32) : s.Idx → Elt F .bf16 := truncf (F := F) .bf16 v bitsLt_bf16_f32

/-- `128` columns of a block of the input times a chunk of the weights. -/
def mm (a : S1024x1024.Idx → Elt F .bf16) (n : Nat) (b : S128x4096.Idx → Elt F .bf16) : S1024x4096.Idx → Elt F .f32 :=
  matmul (F := F) (φ₁ := .bf16) (φ₂ := .bf16) dot_S1024x128_S128x4096_S1024x4096_1_0_0_1_n_n none (colsAt a n) b
    (constant S1024x4096 .f32 0x00000000#32)

/-- That product added to what has been gathered so far. -/
def mac (o : S1024x4096.Idx → Elt F .f32) (a : S1024x1024.Idx → Elt F .bf16) (n : Nat) (b : S128x4096.Idx → Elt F .bf16) :
    S1024x4096.Idx → Elt F .f32 := addf (F := F) (φ := .f32) o (mm a n b)

/-- What is stored of a fetched chunk is that chunk narrowed, -/
theorem pay_castW (v : S128x4096.Idx → Elt F .f32) (h) :
    shapeCast S128x4096 (k0_pay1 (F := F) (shapeCast S1x128x4096 v h)) shapeCasts_S1x128x4096_S128x4096 = narrow v := by
  dsimp only [k0_pay1]
  erw [shapeCast_shapeCast, shapeCast_shapeCast]
  rfl

/-- and of a fetched block that block narrowed. -/
theorem pay_castX (v : S1024x1024.Idx → Elt F .f32) (h) :
    shapeCast S1024x1024 (k0_pay18 (k0_pay17 (F := F) (shapeCast S1x1024x1024 v h))) shapeCasts_S1x1024x1024_S1024x1024 = narrow v := by
  dsimp only [k0_pay17, k0_pay18]
  erw [shapeCast_shapeCast, shapeCast_shapeCast]
  rfl

/-- What is stored of the first product is 128 columns times a chunk, -/
theorem pay_mm (a : S1024x1024.Idx → Elt F .bf16) (n : Nat) (b : S128x4096.Idx → Elt F .bf16) (h h') :
    k0_pay27 (F := F) (shapeCast S1x1024x128 (colsAt a n) h) (shapeCast S1x128x4096 b h') = mm a n b := by
  dsimp only [k0_pay27]
  erw [shapeCast_shapeCast, shapeCast_shapeCast]
  rfl

/-- and of a later one the sum with what was there. -/
theorem pay_mac (o : S1024x4096.Idx → Elt F .f32) (a : S1024x1024.Idx → Elt F .bf16) (n : Nat) (b : S128x4096.Idx → Elt F .bf16) (h h') :
    k0_pay2 (F := F) (shapeCast S1x1024x128 (colsAt a n) h) (shapeCast S1x128x4096 b h') o = mac o a n b := by
  have e : k0_pay2 (F := F) (shapeCast S1x1024x128 (colsAt a n) h) (shapeCast S1x128x4096 b h') o
      = addf (F := F) (φ := .f32) (shapeCast S1024x4096 o shapeCasts_S1024x4096_S1024x4096)
          (k0_pay27 (F := F) (shapeCast S1x1024x128 (colsAt a n) h) (shapeCast S1x128x4096 b h')) := rfl
  rw [e, pay_mm, shapeCast_self]
  rfl

section Groups
variable (c : Dev nD) {Q : PUnit.{1} → sProp (MT nD τ sig Unit (Elt F) ℕ UU ℕ)}

/-- A chunk of the weights landed and narrowed into the slot beside it. -/
theorem wp_castW (i : Nat) (hi : i < 2) (sm : DmaSem sig) {s' : Shape} {e' : EltTy} {sp' : Space} (srcw : Memref sig .tc sp' s' e')
    {h1 h2 h h' h'' hl hl' hx hm} {k} (u : S128x4096.Idx → Elt F .f32) (T : sProp 𝕄) (O : CellTallies nD τ sig Unit) :
    iprop(Fly c sm (wfS i hi) u T ∗ (∃ v, ownsTc c (wbS i hi) fullShare v) ∗ owe c O ∗ MayWait (c : Thread nD τ) (.dma sm) () O)
      ⊢ iprop(((ownsTc c (wfS i hi) fullShare u ∗ ownsTc c (wbS i hi) fullShare (narrow u) ∗ T
              ∗ semVal ((c : Thread nD τ), .dma sm) 0 ∗ owe c O)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 sm srcw (wfS i hi) h1 h2) fun _ =>
              .op (.load wfM (Rect.unit (s := S2x128x4096) ![i, 0, 0] S1x128x4096.size h).toLoadRect hl) fun v =>
              .op (.load wbM (Rect.unit (s := S2x128x4096) ![i, 0, 0] S1x128x4096.size h').toLoadRect hl') fun _ =>
              .op (.store wbM (Rect.unit (s := S2x128x4096) ![i, 0, 0] S1x128x4096.size h'') (k0_pay1 v) Finset.univ hx hm) k) Q) := by
  iintro ⟨HF, ⟨%v, Hb⟩, HO, HM⟩ Hk
  iapply (wp_landed c srcw (wfS i hi) sm u T O) $$ [HF HO HM]
  · isplitl [HF]; · iexact HF
    isplitl [HO] <;> iassumption
  iintro ⟨Hf, HT, Hv, HO⟩
  iapply (wp_load_slot c wfM squeezes_S1x128x4096_S128x4096 ![i, 0, 0] (slot_inb hi) u) $$ Hf
  iintro Hf
  iapply (wp_load_slot c wbM squeezes_S1x128x4096_S128x4096 ![i, 0, 0] (slot_inb hi) v) $$ Hb
  iintro Hb
  iapply (wp_store_slot c wbM squeezes_S1x128x4096_S128x4096 ![i, 0, 0] (slot_inb hi) v) $$ Hb
  iintro Hb
  iapply Hk
  rw [pay_castW]
  isplitl [Hf]; · iexact Hf
  isplitl [Hb]; · iexact Hb
  isplitl [HT]; · iexact HT
  isplitl [Hv] <;> iassumption

/-- The offset of a whole two-axis array is zero on both axes. -/
theorem at_zero : (![0, 0] : Fin 2 → Nat) = fun _ => 0 := funext fun a => by fin_cases a <;> rfl

/-- Loading the whole result block. -/
theorem wp_load_o {h hl} {k} (o : S1024x4096.Idx → Elt F .f32) :
    (ownsTc c oM fullShare o : sProp 𝕄)
      ⊢ iprop((ownsTc c oM fullShare o -∗ wp frame (wpE (defs₀ (F := F)) 𝒱₀ (c : Thread nD τ) none) Set.univ (k o) Q)
          -∗ wp frame (wpE (defs₀ (F := F)) 𝒱₀ (c : Thread nD τ) none) Set.univ
              (.op (.load oM (Rect.unit (s := S1024x4096) ![0, 0] S1024x4096.size h).toLoadRect hl) k) Q) := by
  unfold ownsTc
  rw [owns_whole]
  iintro H Hk
  iapply (wp_load 𝒱₀ (c : Thread nD τ) none Set.univ (m := oM) (Finset.subset_univ _)) $$ H
  iintro H
  rw [show oM.view.readAt (Elt F) (Rect.unit (s := S1024x4096) ![0, 0] S1024x4096.size h).toLoadRect o = o from
    Memref.readAt_unit_zero (Elt F) cc0_stg0_0 at_zero _ o]
  iapply Hk
  iexact H

/-- Storing the whole result block. -/
theorem wp_store_o {h hx hm} {k} (o w : S1024x4096.Idx → Elt F .f32) :
    (ownsTc c oM fullShare o : sProp 𝕄)
      ⊢ iprop((ownsTc c oM fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S1024x4096) ![0, 0] S1024x4096.size h) w Finset.univ hx hm) k) Q) := by
  unfold ownsTc
  rw [owns_whole, owns_whole]
  iintro H Hk
  iapply (wp_store 𝒱₀ (c : Thread nD τ) none Set.univ (m := oM) (r := Rect.unit (s := S1024x4096) ![0, 0] S1024x4096.size h) (Mk := Finset.univ)
    (Finset.subset_univ _)) $$ H
  iintro H
  iapply Hk
  have e : (oM.access (Rect.unit (s := S1024x4096) ![0, 0] S1024x4096.size h)).write (Elt F) o w Finset.univ = w :=
    Memref.write_access_unit_zero_univ (Elt F) cc0_stg0_0 at_zero _ o w
  rw [e]
  iexact H

/-- The first product stored into the result block. -/
theorem wp_first (i n j : Nat) (hi : i < 8) (hj : j < 2) (off : Fin 3 → Nat) (hoff : off = ![i, 0, n])
    {g1 g2 g3 g4 hl1 hl2 hl3 hx hm} {k}
    (a : S1024x1024.Idx → Elt F .bf16) (b : S128x4096.Idx → Elt F .bf16) :
    iprop(ownsTc c (xgS i hi) fullShare a ∗ ownsTc c (wbS j hj) fullShare b ∗ (∃ o, ownsTc c oM fullShare o))
      ⊢ iprop(((ownsTc c (xgS i hi) fullShare a ∗ ownsTc c (wbS j hj) fullShare b ∗ ownsTc c oM fullShare (mm a n b))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load xgM (Rect.unit (s := S8x1024x1024) off S1x1024x128.size g1).toLoadRect hl1) fun x =>
              .op (.load wbM (Rect.unit (s := S2x128x4096) ![j, 0, 0] S1x128x4096.size g2).toLoadRect hl2) fun y =>
              .op (.load oM (Rect.unit (s := S1024x4096) ![0, 0] S1024x4096.size g3).toLoadRect hl3) fun _ =>
              .op (.store oM (Rect.unit (s := S1024x4096) ![0, 0] S1024x4096.size g4) (k0_pay27 x y) Finset.univ hx hm) k) Q) := by
  iintro ⟨Hx, Hb, ⟨%o, Ho⟩⟩ Hk
  iapply (wp_load_cols c i n hi off hoff _ a) $$ Hx
  iintro Hx
  iapply (wp_load_slot c wbM squeezes_S1x128x4096_S128x4096 ![j, 0, 0] (slot_inb hj) b) $$ Hb
  iintro Hb
  iapply (wp_load_o c o) $$ Ho
  iintro Ho
  iapply (wp_store_o c o _) $$ Ho
  iintro Ho
  iapply Hk
  rw [pay_mm]
  isplitl [Hx]; · iexact Hx
  isplitl [Hb] <;> iassumption

/-- A product added to the result block. -/
theorem wp_mac (i n j : Nat) (hi : i < 8) (hj : j < 2) (off : Fin 3 → Nat) (hoff : off = ![i, 0, n])
    {g1 g2 g3 g4 g5 hl1 hl2 hl3 hl4 hx hm} {k}
    (a : S1024x1024.Idx → Elt F .bf16) (b : S128x4096.Idx → Elt F .bf16) (o : S1024x4096.Idx → Elt F .f32) :
    iprop(ownsTc c (xgS i hi) fullShare a ∗ ownsTc c (wbS j hj) fullShare b ∗ ownsTc c oM fullShare o)
      ⊢ iprop(((ownsTc c (xgS i hi) fullShare a ∗ ownsTc c (wbS j hj) fullShare b ∗ ownsTc c oM fullShare (mac o a n b))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load xgM (Rect.unit (s := S8x1024x1024) off S1x1024x128.size g1).toLoadRect hl1) fun x =>
              .op (.load wbM (Rect.unit (s := S2x128x4096) ![j, 0, 0] S1x128x4096.size g2).toLoadRect hl2) fun y =>
              .op (.load oM (Rect.unit (s := S1024x4096) ![0, 0] S1024x4096.size g3).toLoadRect hl3) fun z =>
              .op (.load oM (Rect.unit (s := S1024x4096) ![0, 0] S1024x4096.size g4).toLoadRect hl4) fun _ =>
              .op (.store oM (Rect.unit (s := S1024x4096) ![0, 0] S1024x4096.size g5) (k0_pay2 x y z) Finset.univ hx hm) k) Q) := by
  iintro ⟨Hx, Hb, Ho⟩ Hk
  iapply (wp_load_cols c i n hi off hoff _ a) $$ Hx
  iintro Hx
  iapply (wp_load_slot c wbM squeezes_S1x128x4096_S128x4096 ![j, 0, 0] (slot_inb hj) b) $$ Hb
  iintro Hb
  iapply (wp_load_o c o) $$ Ho
  iintro Ho
  iapply (wp_load_o c o) $$ Ho
  iintro Ho
  iapply (wp_store_o c o _) $$ Ho
  iintro Ho
  iapply Hk
  rw [pay_mac]
  isplitl [Hx]; · iexact Hx
  isplitl [Hb] <;> iassumption

/-- A block of the input landed and narrowed into a slot of another stack. -/
theorem wp_castX {m : Nat} (M : Memref sig .tc .vmem ⟨3, ![m, 1024, 1024]⟩ .bf16)
    (i j : Nat) (hi : i < 2) (hj : j < m) (sm : DmaSem sig) {s' : Shape} {e' : EltTy} {sp' : Space} (srcw : Memref sig .tc sp' s' e')
    {h1 h2 h h' h'' hl hl' hx hm} {k} (u : S1024x1024.Idx → Elt F .f32) (T : sProp 𝕄) (O : CellTallies nD τ sig Unit) :
    iprop(Fly c sm (stS i hi) u T ∗ (∃ v, ownsTc c (slot M squeezes_S1x1024x1024_S1024x1024 ![j, 0, 0] (slot_inb hj)) fullShare v)
          ∗ owe c O ∗ MayWait (c : Thread nD τ) (.dma sm) () O)
      ⊢ iprop(((ownsTc c (stS i hi) fullShare u
              ∗ ownsTc c (slot M squeezes_S1x1024x1024_S1024x1024 ![j, 0, 0] (slot_inb hj)) fullShare (narrow u) ∗ T
              ∗ semVal ((c : Thread nD τ), .dma sm) 0 ∗ owe c O)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 sm srcw (stS i hi) h1 h2) fun _ =>
              .op (.load stM (Rect.unit (s := S2x1024x1024) ![i, 0, 0] S1x1024x1024.size h).toLoadRect hl) fun v =>
              .op (.load M (Rect.unit (s := ⟨3, ![m, 1024, 1024]⟩) ![j, 0, 0] S1x1024x1024.size h').toLoadRect hl') fun _ =>
              .op (.store M (Rect.unit (s := ⟨3, ![m, 1024, 1024]⟩) ![j, 0, 0] S1x1024x1024.size h'') (k0_pay18 (k0_pay17 v)) Finset.univ hx hm) k) Q) := by
  iintro ⟨HF, ⟨%v, Hb⟩, HO, HM⟩ Hk
  iapply (wp_landed c srcw (stS i hi) sm u T O) $$ [HF HO HM]
  · isplitl [HF]; · iexact HF
    isplitl [HO] <;> iassumption
  iintro ⟨Hf, HT, Hv, HO⟩
  iapply (wp_load_slot c stM squeezes_S1x1024x1024_S1024x1024 ![i, 0, 0] (slot_inb hi) u) $$ Hf
  iintro Hf
  iapply (wp_load_slot c M squeezes_S1x1024x1024_S1024x1024 ![j, 0, 0] (slot_inb hj) v) $$ Hb
  iintro Hb
  iapply (wp_store_slot c M squeezes_S1x1024x1024_S1024x1024 ![j, 0, 0] (slot_inb hj) v) $$ Hb
  iintro Hb
  iapply Hk
  rw [pay_castX]
  isplitl [Hf]; · iexact Hf
  isplitl [Hb]; · iexact Hb
  isplitl [HT]; · iexact HT
  isplitl [Hv] <;> iassumption

end Groups

end Cert.KernelIdeal.Exchange
-- ==== Proof.Protocol.lean ====
/-
The cells the devices meet at, what passes through them, and what one step of the exchange does.

A device announces to each of the other seven, on its barrier cell, that the slot kept for it may be written; when
seven announcements are in, each block is sent into the slot its receiver keeps for that distance; a receive cell
hands over the slot with the block of the sender in it, a send cell hands back the sender's copy.
-/
module

public import proofs.«01_k».proof.Proof.Slots
public import Idealize.ShloMosaic.Lib.Rounds

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Distances between devices -/

set_option backward.proofsInPublic true in
/-- The device `k` places after `c`. -/
def dst (c : Dev nD) (k : Fin 8) : Dev nD := ⟨(c.val + k.val) % 8, Nat.mod_lt _ (by decide)⟩
set_option backward.proofsInPublic true in
/-- The device `k` places before `c`. -/
def src (c : Dev nD) (k : Fin 8) : Dev nD := ⟨(c.val + (8 - k.val)) % 8, Nat.mod_lt _ (by decide)⟩
set_option backward.proofsInPublic true in
/-- The distance back. -/
def back (k : Fin 8) : Fin 8 := ⟨(8 - k.val) % 8, Nat.mod_lt _ (by decide)⟩

/-- The device `k` places before the one `k` places on is the first, -/
theorem src_dst (k : Fin 8) (c : Dev nD) : src (dst c k) k = c := by revert k c; decide
/-- and the other way round. -/
theorem dst_src (k : Fin 8) (c : Dev nD) : dst (src c k) k = c := by revert k c; decide
/-- The way back leads back. -/
theorem dst_back (k : Fin 8) (c : Dev nD) : dst (dst c k) (back k) = c := by revert k c; decide
/-- The way back of the way back is the way. -/
theorem back_back (k : Fin 8) : back (back k) = k := by revert k; decide
/-- From another device the way back is not zero either. -/
theorem back_ne (k : Fin 8) (h : k ≠ 0) : back k ≠ 0 := by revert k; decide

/-! ## The cells -/

/-- The barrier semaphore all devices share the name of. -/
abbrev barS : Sem sig := (SemArray.scalar (sig.barrier 0 rfl) : Sems sig S_).sem

/-- Each distance has its semaphore in an array of eight. -/
theorem sem_inb (k : Fin 8) : ∀ x, (![k.val] : Fin 1 → Nat) x + S1.size x ≤ S8.size x := by
  intro x; fin_cases x; exact k.isLt

/-- The semaphore of the copy sent at distance `k`, on the sender's side -/
abbrev sendS (k : Fin 8) : DmaSem sig := ((cc0_scratch7.slice (Rect.unit (s := S8) ![k.val] S1.size (sem_inb k))).squeeze S_ squeezes_S1_S_).sem
/-- and on the receiver's. -/
abbrev recvS (k : Fin 8) : DmaSem sig := ((cc0_scratch8.slice (Rect.unit (s := S8) ![k.val] S1.size (sem_inb k))).squeeze S_ squeezes_S1_S_).sem

/-- The send semaphores are numbered from 5, -/
theorem sendS_val (k : Fin 8) : (sendS k).val = 5 + k.val := by revert k; decide
/-- the receive semaphores from 13. -/
theorem recvS_val (k : Fin 8) : (recvS k).val = 13 + k.val := by revert k; decide

/-- The cells' names: the barrier, and the sending and receiving side of each distance. -/
abbrev Cell : Type := Option (Bool × Fin 8)

/-- The semaphore of each name. -/
abbrev csem : Cell → SemLoc sig
  | none => .reg barS
  | some (false, k) => .dma (sendS k)
  | some (true, k) => .dma (recvS k)

/-- The cell of each name on each device: -/
abbrev kcell (ck : Dev nD × Cell) : GSem nD τ sig := ((ck.1 : Thread nD τ), csem ck.2)
/-- the barrier's cell, -/
abbrev barCell (c : Dev nD) : GSem nD τ sig := ((c : Thread nD τ), .reg barS)
/-- the cell that counts what has been sent at distance `k`, -/
abbrev sendCell (c : Dev nD) (k : Fin 8) : GSem nD τ sig := ((c : Thread nD τ), .dma (sendS k))
/-- and the cell that counts what has landed from `k` places before. -/
abbrev recvCell (c : Dev nD) (k : Fin 8) : GSem nD τ sig := ((c : Thread nD τ), .dma (recvS k))

/-- Different names are different semaphores, -/
theorem csem_injective : Function.Injective csem := by
  rintro (_ | ⟨_ | _, k⟩) (_ | ⟨_ | _, k'⟩) h
  · rfl
  · cases h
  · cases h
  · cases h
  · have e : (sendS k).val = (sendS k').val := congrArg Fin.val (SemLoc.dma.inj h)
    rw [sendS_val, sendS_val] at e
    rw [show k = k' from Fin.ext (by omega)]
  · have e : (sendS k).val = (recvS k').val := congrArg Fin.val (SemLoc.dma.inj h)
    rw [sendS_val, recvS_val] at e
    omega
  · cases h
  · have e : (recvS k).val = (sendS k').val := congrArg Fin.val (SemLoc.dma.inj h)
    rw [recvS_val, sendS_val] at e
    omega
  · have e : (recvS k).val = (recvS k').val := congrArg Fin.val (SemLoc.dma.inj h)
    rw [recvS_val, recvS_val] at e
    rw [show k = k' from Fin.ext (by omega)]

/-- and different cells. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of one block of the input. -/
abbrev N : ℕ := (xgS 0 (by decide)).view.dmaCredit
/-- A block's credit is not nothing. -/
theorem N_pos : 0 < N := View.dmaCredit_pos _ (by decide)

/-! ## What passes through the cells -/

variable (m : (ℓ : Loc nD τ sig) → Buf (Elt F) ℓ)

/-- Device `c`'s columns of the input, at launch. -/
def X (c : Dev nD) : S8192x1024.Idx → Elt F .f32 := m ((c : Thread nD τ).loc main_arg0)
/-- Device `c`'s weights, at launch. -/
def W (c : Dev nD) : S8192x4096.Idx → Elt F .f32 := m ((c : Thread nD τ).loc main_arg1)

/-- The rows of device `p`'s columns that device `c` is to have. -/
def blk (p c : Dev nD) : S1024x1024.Idx → Elt F .bf16 := narrow (xRows (X m p) (1024 * c.val))

/-- Distance `k` is served by one of the seven slots to send from. -/
theorem pred_lt (k : Fin 8) : (k.val + 6) % 7 < 7 := Nat.mod_lt _ (by decide)

/-- At distance `k` a device is handed the slot the device `k` places on keeps for it. -/
def barPay (c : Dev nD) (k : Fin 8) : sProp 𝕄 := iprop(∃ v, ownsTc (dst c k) (xgS k.val k.isLt) fullShare v)
/-- A landing hands over its slot with the sender's block in it. -/
def recvPay (c : Dev nD) (k : Fin 8) : sProp 𝕄 := ownsTc c (xgS k.val k.isLt) fullShare (blk m (src c k) c)
/-- A send that is over hands back the slot it was sent from. -/
def sendPay (c : Dev nD) (k : Fin 8) : sProp 𝕄 := iprop(∃ v, ownsTc c (xsS ((k.val + 6) % 7) (pred_lt k)) fullShare v)

/-- The payload of a transfer's cell by the semaphore's number. -/
def dmaPay (c : Dev nD) (q : DmaSem sig) : sProp 𝕄 :=
  if 13 ≤ q.val then recvPay m c ⟨(q.val - 13) % 8, Nat.mod_lt _ (by decide)⟩
  else sendPay c ⟨(q.val - 5) % 8, Nat.mod_lt _ (by decide)⟩

/-- The cell is a barrier's. -/
abbrev IsBar (g : GSem nD τ sig) : Prop := g.1.2 = .tc ∧ g.2 = .reg barS
/-- The cell is that of a transfer to or from another device. -/
abbrev IsXfer (g : GSem nD τ sig) : Prop := g.1.2 = .tc ∧ ∃ k : Fin 8, k ≠ 0 ∧ (g.2 = .dma (sendS k) ∨ g.2 = .dma (recvS k))

open Classical in
/-- One round: a barrier cell has one unit due from each of the other seven devices, a transfer's cell one block's credit. -/
def rd : Rounds.Schedule (GSem nD τ sig) (Fin 8) 𝕄 where
  duties g r := if r = 0 ∧ IsBar g then Finset.univ.erase 0 else if r = 0 ∧ IsXfer g then {0} else ∅
  unitless _ := False
  amount g _ _ := if g.2 = .reg barS then 1 else N
  payload g _ d := match g.2 with
    | .reg _ => barPay g.1.1 d
    | .dma q => dmaPay m g.1.1 q
  amount_pos g _ _ _ := by
    by_cases h : g.2 = .reg barS
    · rw [if_pos h]; exact Nat.one_pos
    · rw [if_neg h]; exact N_pos

/-- What the cells hand over may be kept in them. -/
instance rd_storable (g : GSem nD τ sig) (r : ℕ) (d : Fin 8) : BI.Storable (upEmb : UEmb _ 𝕄) ((rd m).payload g r d) := by
  obtain ⟨⟨p, cr⟩, _ | q⟩ := g
  · show BI.Storable upEmb (barPay p d)
    unfold barPay; infer_instance
  · show BI.Storable upEmb (dmaPay m p q)
    unfold dmaPay recvPay sendPay
    split <;> infer_instance

section Sched
variable (c : Dev nD) (k : Fin 8)

/-- A send cell is no barrier, -/
theorem not_bar_send : ¬ IsBar (sendCell c k) := fun h => by cases h.2
/-- nor is a receive cell. -/
theorem not_bar_recv : ¬ IsBar (recvCell c k) := fun h => by cases h.2
/-- The send cell at distance zero belongs to no transfer, -/
theorem not_xfer_send : ¬ IsXfer (sendCell c 0) := by
  rintro ⟨-, k, hk, h | h⟩
  · have e := congrArg Fin.val (SemLoc.dma.inj h)
    rw [sendS_val, sendS_val] at e
    exact hk (Fin.ext (by have : (0 : Fin 8).val = 0 := rfl; omega))
  · have e := congrArg Fin.val (SemLoc.dma.inj h)
    rw [sendS_val, recvS_val] at e
    have : (0 : Fin 8).val = 0 := rfl
    omega
/-- nor does that receive cell. -/
theorem not_xfer_recv : ¬ IsXfer (recvCell c 0) := by
  rintro ⟨-, k, hk, h | h⟩
  · have e := congrArg Fin.val (SemLoc.dma.inj h)
    rw [recvS_val, sendS_val] at e
    have : (0 : Fin 8).val = 0 := rfl
    omega
  · have e := congrArg Fin.val (SemLoc.dma.inj h)
    rw [recvS_val, recvS_val] at e
    exact hk (Fin.ext (by have : (0 : Fin 8).val = 0 := rfl; omega))

/-- On a barrier one unit is due from each of the seven other distances, -/
theorem duties_bar : (rd m).duties (barCell c) 0 = Finset.univ.erase 0 := by
  dsimp only [rd]; exact if_pos ⟨rfl, rfl, rfl⟩
/-- on a send cell one payment, -/
theorem duties_send (h : k ≠ 0) : (rd m).duties (sendCell c k) 0 = {0} := by
  dsimp only [rd]; rw [if_neg (fun h' => not_bar_send c k h'.2)]; exact if_pos ⟨rfl, rfl, k, h, .inl rfl⟩
/-- and on a receive cell one. -/
theorem duties_recv (h : k ≠ 0) : (rd m).duties (recvCell c k) 0 = {0} := by
  dsimp only [rd]; rw [if_neg (fun h' => not_bar_recv c k h'.2)]; exact if_pos ⟨rfl, rfl, k, h, .inr rfl⟩
/-- After the first round nothing is due anywhere. -/
theorem duties_later (g : GSem nD τ sig) : ∀ r, 1 ≤ r → (rd m).duties g r = ∅ :=
  fun r hr => by dsimp only [rd]; rw [if_neg fun h => by omega, if_neg fun h => by omega]
/-- Nothing is ever due on the send cell at distance zero, -/
theorem duties_send_zero : ∀ r, 0 ≤ r → (rd m).duties (sendCell c 0) r = ∅ :=
  fun r _ => by dsimp only [rd]; rw [if_neg (fun h => not_bar_send c 0 h.2), if_neg (fun h => not_xfer_send c h.2)]
/-- or on that receive cell. -/
theorem duties_recv_zero : ∀ r, 0 ≤ r → (rd m).duties (recvCell c 0) r = ∅ :=
  fun r _ => by dsimp only [rd]; rw [if_neg (fun h => not_bar_recv c 0 h.2), if_neg (fun h => not_xfer_recv c h.2)]

/-- A barrier is paid one unit at a time, -/
theorem amount_bar (d : Fin 8) : (rd m).amount (barCell c) 0 d = 1 := by dsimp only [rd]; exact if_pos rfl
/-- a send cell a block's credit, -/
theorem amount_send (d : Fin 8) : (rd m).amount (sendCell c k) 0 d = N := by dsimp only [rd]; exact if_neg (fun h => by cases h)
/-- and a receive cell too. -/
theorem amount_recv (d : Fin 8) : (rd m).amount (recvCell c k) 0 d = N := by dsimp only [rd]; exact if_neg (fun h => by cases h)

/-- Seven units pass a barrier's round, -/
theorem expect_bar : (rd m).expect (barCell c) 0 = 7 := by
  unfold Schedule.expect Schedule.amountOf
  rw [duties_bar, Finset.sum_congr rfl fun d _ => amount_bar m c d, Finset.sum_const, smul_eq_mul]
  decide
/-- one block's credit that of a send cell, -/
theorem expect_send (h : k ≠ 0) : (rd m).expect (sendCell c k) 0 = N := by
  unfold Schedule.expect Schedule.amountOf; rw [duties_send m c k h, Finset.sum_singleton, amount_send]
/-- and one that of a receive cell. -/
theorem expect_recv (h : k ≠ 0) : (rd m).expect (recvCell c k) 0 = N := by
  unfold Schedule.expect Schedule.amountOf; rw [duties_recv m c k h, Finset.sum_singleton, amount_recv]

/-- A unit on the barrier brings a slot on the device that far on, -/
theorem payload_bar (d : Fin 8) : (rd m).payload (barCell c) 0 d = barPay c d := rfl
/-- the end of a send the slot sent from, -/
theorem payload_send (d : Fin 8) : (rd m).payload (sendCell c k) 0 d = sendPay c k := by
  show dmaPay m c (sendS k) = _
  unfold dmaPay
  rw [if_neg (by rw [sendS_val]; omega), show (⟨((sendS k).val - 5) % 8, Nat.mod_lt _ (by decide)⟩ : Fin 8) = k from
    Fin.ext (by show ((sendS k).val - 5) % 8 = _; rw [sendS_val]; omega)]
/-- and a landing the slot with the block. -/
theorem payload_recv (d : Fin 8) : (rd m).payload (recvCell c k) 0 d = recvPay m c k := by
  show dmaPay m c (recvS k) = _
  unfold dmaPay
  rw [if_pos (by rw [recvS_val]; omega), show (⟨((recvS k).val - 13) % 8, Nat.mod_lt _ (by decide)⟩ : Fin 8) = k from
    Fin.ext (by show ((recvS k).val - 13) % 8 = _; rw [recvS_val]; omega)]

/-- A whole round of the barrier brings the slots on the seven other devices, -/
theorem rest_bar : bigSep ((rd m).duties (barCell c) 0 \ ∅) (fun d => (rd m).payload (barCell c) 0 d)
    = iprop(barPay c 1 ∗ barPay c 2 ∗ barPay c 3 ∗ barPay c 4 ∗ barPay c 5 ∗ barPay c 6 ∗ barPay (F := F) c 7) := by
  rw [Finset.sdiff_empty, duties_bar, bigSep_eq_bigSepL_of_eq [1, 2, 3, 4, 5, 6, 7] (by decide) (by decide)]
  rfl
/-- that of a send cell the slot sent from, -/
theorem rest_send (h : k ≠ 0) : bigSep ((rd m).duties (sendCell c k) 0 \ ∅) (fun d => (rd m).payload (sendCell c k) 0 d) = sendPay c k := by
  rw [Finset.sdiff_empty, duties_send m c k h, bigSep_singleton, payload_send]
/-- and that of a receive cell the landed block. -/
theorem rest_recv (h : k ≠ 0) : bigSep ((rd m).duties (recvCell c k) 0 \ ∅) (fun d => (rd m).payload (recvCell c k) 0 d) = recvPay m c k := by
  rw [Finset.sdiff_empty, duties_recv m c k h, bigSep_singleton, payload_recv]

end Sched

/-! ## What a device owes, and the levels -/

set_option backward.proofsInPublic true in
/-- The distance whose turn comes when `n` are left after it. -/
def turn (n : Nat) : Fin 8 := ⟨(7 - n) % 8, Nat.mod_lt _ (by decide)⟩

/-- The credit of the last `n` blocks to be sent. -/
def Osend (c : Dev nD) : Nat → CellTallies nD τ sig Unit
  | 0 => 0
  | n + 1 => Osend c n + tallyAt (recvCell (dst c (turn n)) (turn n)) () N

/-- That of all seven, and the last `n` units for the barriers. -/
def Osig (c : Dev nD) : Nat → CellTallies nD τ sig Unit
  | 0 => Osend c 7
  | n + 1 => Osig c n + tallyAt (barCell (dst c (turn n))) () 1

/-- Each semaphore has one kind of credit. -/
def L (g : GSem nD τ sig) : Finset Unit := if g.1.2 = .tc then {()} else ∅
/-- Barrier cells at `1`, receive cells at `2`, every other cell at `0`. -/
def lv (g : GSem nD τ sig) (_ : Unit) : ℕ := match g.2 with
  | .reg _ => 1
  | .dma q => if 13 ≤ q.val then 2 else 0

/-- Other threads' semaphores have none; -/
theorem L_of_ne (g : GSem nD τ sig) (h : g.1.2 ≠ .tc) : L g = ∅ := if_neg h
/-- those of the devices' programs have it. -/
theorem L_tc (c : Dev nD) (sm : SemLoc sig) : L ((c : Thread nD τ), sm) = {()} := if_pos rfl
/-- The receive cells are at level 2. -/
theorem lv_recv (c : Dev nD) (k : Fin 8) : lv (recvCell c k) () = 2 := if_pos (by rw [recvS_val]; omega)

/-- What is owed for blocks is owed to cells at level 2. -/
theorem Osend_pos (c : Dev nD) (n : Nat) {g : GSem nD τ sig} {u : Unit} (h : 0 < Osend c n g u) : g.1.2 = .tc ∧ lv g u = 2 := by
  induction n with
  | zero => exact absurd h (Nat.lt_irrefl 0)
  | succ n ih =>
    unfold Osend at h
    rw [Pi.add_apply, Finsupp.add_apply, tallyAt_apply] at h
    by_cases h' : g = recvCell (dst c (turn n)) (turn n) ∧ u = ()
    · rw [h'.1]; exact ⟨rfl, lv_recv _ _⟩
    · rw [if_neg h'] at h; exact ih h

/-- Whatever is owed is owed to cells above level 0. -/
theorem Osig_pos (c : Dev nD) (n : Nat) {g : GSem nD τ sig} {u : Unit} (h : 0 < Osig c n g u) : g.1.2 = .tc ∧ 0 < lv g u := by
  induction n with
  | zero =>
    obtain ⟨h1, h2⟩ := Osend_pos c 7 h
    exact ⟨h1, by rw [h2]; decide⟩
  | succ n ih =>
    unfold Osig at h
    rw [Pi.add_apply, Finsupp.add_apply, tallyAt_apply] at h
    by_cases h' : g = barCell (dst c (turn n)) ∧ u = ()
    · rw [h'.1]; exact ⟨rfl, Nat.one_pos⟩
    · rw [if_neg h'] at h; exact ih h

/-- A cell may be waited on while only credit of cells above it is owed. -/
theorem mayWait_below (c : Dev nD) (sm : SemLoc sig) (n : Nat) (hs : lv ((c : Thread nD τ), sm) () ≤ n) (O : CellTallies nD τ sig Unit)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hs)
    (fun g u hg => (hO g u hg).2)

/-- The local copies' and the send semaphores are at level 0. -/
theorem lv_low (c : Dev nD) (q : DmaSem sig) (hq : q.val < 13) : lv ((c : Thread nD τ), .dma q) () ≤ 0 := by
  show (if 13 ≤ q.val then 2 else 0) ≤ 0
  rw [if_neg (by omega)]

/-- A local copy may be waited for while blocks are still to be sent, -/
theorem mayWait_send (c : Dev nD) (q : DmaSem sig) (hq : q.val < 13) (n : Nat) :
    (levAts L lv : sProp 𝕄) ⊢ MayWait (c : Thread nD τ) (.dma q) () (Osend c n) :=
  mayWait_below c _ 0 (lv_low c q hq) _ fun g u h => ⟨(Osend_pos c n h).1, by rw [(Osend_pos c n h).2]; decide⟩
/-- or announcements made. -/
theorem mayWait_sig (c : Dev nD) (q : DmaSem sig) (hq : q.val < 13) (n : Nat) :
    (levAts L lv : sProp 𝕄) ⊢ MayWait (c : Thread nD τ) (.dma q) () (Osig c n) :=
  mayWait_below c _ 0 (lv_low c q hq) _ fun g u h => Osig_pos c n h
/-- The barrier may be waited for while the blocks are to be sent. -/
theorem mayWait_bar (c : Dev nD) : (levAts L lv : sProp 𝕄) ⊢ MayWait (c : Thread nD τ) (.reg barS) () (Osend c 7) :=
  mayWait_below c _ 1 le_rfl _ fun g u h => ⟨(Osend_pos c 7 h).1, by rw [(Osend_pos c 7 h).2]; decide⟩

/-! ## The steps of the exchange -/

variable (K : Dev nD × Cell → ℕ)

/-- The cells' invariants, and that each cell is in its round, for every device to use. -/
def records : sProp 𝕄 :=
  iprop((bigSep Finset.univ fun ck : Dev nD × Cell => cellInv ER (rd m) (K ck) (kcell ck))
    ∗ bigSep Finset.univ fun ck : Dev nD × Cell => reached ER (kcell ck) 0)

/-- The records may be used any number of times. -/
instance records_persistent : BI.Persistent (records m K) := by unfold records; infer_instance

/-- Among them is the invariant of each cell, -/
theorem inv_at (ck : Dev nD × Cell) : records m K ⊢ cellInv ER (rd m) (K ck) (kcell ck) := by
  unfold records
  have h : (bigSep Finset.univ fun ck : Dev nD × Cell => (cellInv ER (rd m) (K ck) (kcell ck) : sProp 𝕄)) ⊢ cellInv ER (rd m) (K ck) (kcell ck) :=
    bigSep_elim (Finset.mem_univ ck)
  iintro ⟨H, -⟩
  iapply h
  iexact H
/-- and that it is in its round. -/
theorem reached_at (ck : Dev nD × Cell) : records m K ⊢ reached ER (kcell ck) 0 := by
  unfold records
  have h : (bigSep Finset.univ fun ck : Dev nD × Cell => (reached ER (kcell ck) 0 : sProp 𝕄)) ⊢ reached ER (kcell ck) 0 :=
    bigSep_elim (Finset.mem_univ ck)
  iintro ⟨-, H⟩
  iapply h
  iexact H

section Steps
variable (c : Dev nD) (k : Fin 8) {Q : PUnit.{1} → sProp (MT nD τ sig Unit (Elt F) ℕ UU ℕ)}

/-- Announcing to the device `k` places on that its slot here may be written. -/
theorem wp_ping (n : Nat) (hk : k = turn n) (hk0 : k ≠ 0) (d : Dev nD) (hd : d = dst c k) (i : Nat) (hi : i < 8) (hik : i = (back k).val)
    {k'} :
    iprop(records m K ∗ owe c (Osig c (n + 1)) ∗ dutyTok ER (barCell (dst c k)) 0 (back k) ∗ (∃ v, ownsTc c (xgS i hi) fullShare v))
      ⊢ iprop((owe c (Osig c n) -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (d : Thread nD τ) barS 1) k') Q) := by
  subst hd; subst hik
  iintro ⟨#HR, ⟨%W', HO⟩, HT, Hs⟩ Hk
  iapply (Rounds.wp_signal 𝒱₀ ER (rd m) (c : Thread nD τ) none (dst := (dst c k : Thread nD τ)) (κ := K (dst c k, none))
    (d := back k) (by rw [duties_bar]; exact Finset.mem_erase.mpr ⟨back_ne k hk0, Finset.mem_univ _⟩)
    (amount_bar m (dst c k) (back k)) () (Osig c n) (by rw [hk])) $$ [HO HT Hs]
  · isplitr; · iapply (inv_at m K (dst c k, none)); iexact HR
    isplitl [HO]; · iexact HO
    isplitl [HT]; · iexact HT
    isplitl [Hs]
    · rw [payload_bar]; unfold barPay; rw [dst_back]; iexact Hs
    iapply (reached_at m K (dst c k, none)); iexact HR
  iintro HO
  iapply Hk
  iexists _; iexact HO

/-- Waiting for the seven announcements: the slots the others keep for this device are its to write. -/
theorem wp_gather {k'} :
    iprop(records m K ∗ cred (tallyAt (barCell c) () 7) ∗ owe c (Osend c 7) ∗ levAts L lv ∗ atPos ER (barCell c) 0 ∅ 0)
      ⊢ iprop(((owe c (Osend c 7) ∗ semVal (barCell c) 0
              ∗ barPay c 1 ∗ barPay c 2 ∗ barPay c 3 ∗ barPay c 4 ∗ barPay c 5 ∗ barPay c 6 ∗ barPay (F := F) c 7)
            -∗ wp frame (wpE (defs₀ (F := F)) 𝒱₀ (c : Thread nD τ) none) Set.univ (k' ⟨⟩) Q)
          -∗ wp frame (wpE (defs₀ (F := F)) 𝒱₀ (c : Thread nD τ) none) Set.univ (.op (.semWait barS 7) k') Q) := by
  iintro ⟨#HR, HC, ⟨%W', HO⟩, #HL, HA⟩ Hk
  iapply (Rounds.wp_wait_rest_token 𝒱₀ ER (rd m) (c : Thread nD τ) none (κ := K (c, none))
    (wpE_semWait_eq 𝒱₀ (c : Thread nD τ) none Set.univ) (Set.mem_univ _) () (O := Osend c 7) (W := W') (R := 0) (m := 0) (T := ∅)
    (by rw [expect_bar])) $$ [HC HO HA]
  · isplitr; · iapply (inv_at m K (c, none)); iexact HR
    isplitl [HC]; · iexact HC
    isplitl [HO]; · iexact HO
    isplitr; · iapply (mayWait_bar c); iexact HL
    iexact HA
  iintro ⟨HO, HA, -, Hp⟩
  ihave Hp := (Entails.of_eq (rest_bar m c)) $$ Hp
  imod (Rounds.cell_close ER (rd m) (Set.mem_univ (K (c, none))) (fun h => h) (R := 0 + 1) (duties_later m (barCell c))) $$ [HA] with Hz
  · isplitr; · iapply (inv_at m K (c, none)); iexact HR
    iexact HA
  iapply Hk
  isplitl [HO]; · iexists _; iexact HO
  isplitl [Hz] <;> iassumption

/-- Sending the block for the device `k` places on. -/
theorem wp_ship (n : Nat) (hk : k = turn n) (hk0 : k ≠ 0) (d : Dev nD) (hd : d = dst c k) (i : Nat) (hi : i < 7) (hik : i = (k.val + 6) % 7)
    {k'} {hsc hsrc hdst hsem} :
    iprop(records m K ∗ ownsTc c (xsS i hi) fullShare (blk m c (dst c k)) ∗ barPay c k ∗ owe c (Osend c (n + 1))
        ∗ dutyTok ER (sendCell c k) 0 0 ∗ dutyTok ER (recvCell (dst c k) k) 0 0)
      ⊢ iprop(((cred (tallyAt (sendCell c k) () N) ∗ owe c (Osend c n))
            -∗ wp frame (wpE (defs₀ (F := F)) 𝒱₀ (c : Thread nD τ) none) Set.univ (k' ⟨⟩) Q)
          -∗ wp frame (wpE (defs₀ (F := F)) 𝒱₀ (c : Thread nD τ) none) Set.univ
            (.op (.enqueueDma (xsS i hi) (.remote (Dev.tc d : Thread nD τ) (xgS k.val k.isLt) (.dma (sendS k)) hsc) (.dma (recvS k)) hsrc hdst hsem) k') Q) := by
  subst hd; subst hik
  unfold barPay
  iintro ⟨#HR, Hx, ⟨%v, Hd⟩, ⟨%W', HO⟩, HT, HT'⟩ Hk
  unfold ownsTc owns
  icases Hx with ⟨%fs, %hfs, Hx⟩
  icases Hd with ⟨%fd, %hfd, Hd⟩
  have eN : (xgS k.val k.isLt).view.amount (.dma (recvS k)) = N := rfl
  have p₁ : (((xsS ((k.val + 6) % 7) hi).view.loc (c : Thread nD τ) ↦[(xsS ((k.val + 6) % 7) hi).view.set]{fullShare} fs) : sProp 𝕄)
      ⊢ (rd m).payload (sendCell c k) 0 0 := by
    rw [payload_send]; unfold sendPay ownsTc owns
    iintro H
    iexists (View.read (Elt F) (xsS ((k.val + 6) % 7) hi).view fs); iexists fs
    isplitr; · ipureintro; rfl
    iexact H
  have p₂ : (((xgS k.val k.isLt).view.loc (dst c k : Thread nD τ) ↦[(xgS k.val k.isLt).view.set]{fullShare}
        View.write (Elt F) (xgS k.val k.isLt).view fd (View.read (Elt F) (xsS ((k.val + 6) % 7) hi).view fs) Finset.univ) : sProp 𝕄)
      ⊢ (rd m).payload (recvCell (dst c k) k) 0 0 := by
    rw [payload_recv]; unfold recvPay ownsTc owns
    iintro H
    iexists (View.write (Elt F) (xgS k.val k.isLt).view fd (View.read (Elt F) (xsS ((k.val + 6) % 7) hi).view fs) Finset.univ)
    isplitr
    · ipureintro; rw [View.read_write_univ, hfs, src_dst]
    iexact H
  iapply (Rounds.wp_send_pointsTo 𝒱₀ ER (rd m) (c : Thread nD τ) none (c' := (dst c k : Thread nD τ))
    (src := xsS ((k.val + 6) % 7) hi) (dst := xgS k.val k.isLt) (sS := .dma (sendS k)) (sem := .dma (recvS k))
    (κ₁ := K (c, some (false, k))) (κ₂ := K (dst c k, some (true, k)))
    (r₁ := 0) (r₂ := 0) (d₁ := 0) (d₂ := 0) (fs := fs) (fd := fd)
    (by rw [duties_send m c k hk0]; exact Finset.mem_singleton_self _) (by rw [duties_recv m (dst c k) k hk0]; exact Finset.mem_singleton_self _)
    () () N eN (amount_send m c k 0) (amount_recv m (dst c k) k 0) (Osend c n) (by rw [hk]) (W := W') p₁ p₂) $$ [Hx Hd HO HT HT']
  · isplitr; · iapply (inv_at m K (c, some (false, k))); iexact HR
    isplitr; · iapply (inv_at m K (dst c k, some (true, k))); iexact HR
    isplitl [Hx]; · iexact Hx
    isplitl [Hd]; · iexact Hd
    isplitl [HO]; · iexact HO
    isplitl [HT]; · iexact HT
    isplitr; · iapply (reached_at m K (c, some (false, k))); iexact HR
    isplitl [HT']; · iexact HT'
    iapply (reached_at m K (dst c k, some (true, k))); iexact HR
  iintro ⟨HC, HO⟩
  iapply Hk
  isplitl [HC]; · iexact HC
  iexists _; iexact HO

/-- Waiting for the block from the device `k` places before. -/
theorem wp_arrive (hk0 : k ≠ 0) (q : DmaSem sig) (hq : q = recvS k) {s s' : Shape} {e e' : EltTy} {sp' : Space} (srcw : Memref sig .tc sp' s' e')
    (dstw : Memref sig .tc .vmem s e) (hN : dstw.view.dmaCredit = N) {h1 h2} {k'} :
    iprop(records m K ∗ cred (tallyAt (recvCell c k) () N) ∗ owe c 0 ∗ atPos ER (recvCell c k) 0 ∅ 0)
      ⊢ iprop(((owe c 0 ∗ semVal (recvCell c k) 0 ∗ recvPay m c k)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q srcw dstw h1 h2) k') Q) := by
  subst hq
  iintro ⟨#HR, HC, ⟨%W', HO⟩, HA⟩ Hk
  rw [← hN]
  iapply (Rounds.wp_wait_rest_token 𝒱₀ ER (rd m) (c : Thread nD τ) none (κ := K (c, some (true, k)))
    (wpE_waitDma2_eq 𝒱₀ (c : Thread nD τ) none Set.univ) (Set.mem_univ _) () (O := 0) (W := W') (R := 0) (m := 0) (T := ∅)
    (by rw [Nat.zero_add, expect_recv m c k hk0]; exact hN)) $$ [HC HO HA]
  · isplitr; · iapply (inv_at m K (c, some (true, k))); iexact HR
    isplitl [HC]; · iexact HC
    isplitl [HO]; · iexact HO
    isplitr; · rw [MayWait_zero]; iempintro
    iexact HA
  iintro ⟨HO, HA, -, Hp⟩
  ihave Hp := (Entails.of_eq (rest_recv m c k hk0)) $$ Hp
  imod (Rounds.cell_close ER (rd m) (Set.mem_univ (K (c, some (true, k)))) (fun h => h) (R := 0 + 1) (duties_later m (recvCell c k))) $$ [HA] with Hz
  · isplitr; · iapply (inv_at m K (c, some (true, k))); iexact HR
    iexact HA
  iapply Hk
  isplitl [HO]; · iexists _; iexact HO
  isplitl [Hz] <;> iassumption

/-- Waiting until the block for the device `k` places on has left: the copy it was sent from is back. -/
theorem wp_left (hk0 : k ≠ 0) (q : DmaSem sig) (hq : q = sendS k) {s s' : Shape} {e e' : EltTy} {sp' : Space} (srcw : Memref sig .tc sp' s' e')
    (dstw : Memref sig .tc .vmem s e) (hN : dstw.view.dmaCredit = N) {h1 h2} {k'} :
    iprop(records m K ∗ cred (tallyAt (sendCell c k) () N) ∗ owe c 0 ∗ atPos ER (sendCell c k) 0 ∅ 0)
      ⊢ iprop(((owe c 0 ∗ semVal (sendCell c k) 0 ∗ sendPay (F := F) c k)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q srcw dstw h1 h2) k') Q) := by
  subst hq
  iintro ⟨#HR, HC, ⟨%W', HO⟩, HA⟩ Hk
  rw [← hN]
  iapply (Rounds.wp_wait_rest_token 𝒱₀ ER (rd m) (c : Thread nD τ) none (κ := K (c, some (false, k)))
    (wpE_waitDma2_eq 𝒱₀ (c : Thread nD τ) none Set.univ) (Set.mem_univ _) () (O := 0) (W := W') (R := 0) (m := 0) (T := ∅)
    (by rw [Nat.zero_add, expect_send m c k hk0]; exact hN)) $$ [HC HO HA]
  · isplitr; · iapply (inv_at m K (c, some (false, k))); iexact HR
    isplitl [HC]; · iexact HC
    isplitl [HO]; · iexact HO
    isplitr; · rw [MayWait_zero]; iempintro
    iexact HA
  iintro ⟨HO, HA, -, Hp⟩
  ihave Hp := (Entails.of_eq (rest_send m c k hk0)) $$ Hp
  imod (Rounds.cell_close ER (rd m) (Set.mem_univ (K (c, some (false, k)))) (fun h => h) (R := 0 + 1) (duties_later m (sendCell c k))) $$ [HA] with Hz
  · isplitr; · iapply (inv_at m K (c, some (false, k))); iexact HR
    iexact HA
  iapply Hk
  isplitl [HO]; · iexists _; iexact HO
  isplitl [Hz] <;> iassumption

end Steps

end Cert.KernelIdeal.Exchange
-- ==== Proof.Steps.lean ====
/-
The steps of the body in terms of the arrays they are about: a chunk of the weights fetched and narrowed, a block of
the input fetched and narrowed, a product added to the result.
-/
module

public import proofs.«01_k».proof.Proof.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The arrays -/

/-- The first of the rows of the weights that chunk `j` of the step for distance `t` takes. -/
def row (c : Dev nD) (t j : Nat) : Nat := 1024 * ((c.val + 8 - t) % 8) + 128 * j

/-- That chunk. -/
def chunk (c : Dev nD) (t j : Nat) : S128x4096.Idx → Elt F .f32 := wRows (W m c) (row c t j)

/-- The `n`-th product: step `n / 8`, chunk `n % 8`. -/
def term (c : Dev nD) (n : Nat) : S1024x4096.Idx → Elt F .f32 :=
  mm (blk m (src c ⟨n / 8 % 8, Nat.mod_lt _ (by decide)⟩) c) (128 * (n % 8)) (narrow (chunk m c (n / 8) (n % 8)))

/-- The products up to the `n`-th, added in order. -/
def acc (c : Dev nD) : Nat → S1024x4096.Idx → Elt F .f32
  | 0 => term m c 0
  | n + 1 => addf (F := F) (φ := .f32) (acc c n) (term m c (n + 1))

/-- The first product is the accumulator at its start, -/
theorem acc_first (c : Dev nD) : mm (blk m (src c 0) c) 0 (narrow (chunk m c 0 0)) = acc m c 0 := rfl

/-- and adding the next product gives the next. -/
theorem acc_next (c : Dev nD) (n t j : Nat) (k : Fin 8) (hk : k.val = t) (hj : j < 8) (hn : n + 1 = 8 * t + j) :
    mac (acc m c n) (blk m (src c k) c) (128 * j) (narrow (chunk m c t j)) = acc m c (n + 1) := by
  have h1 : (n + 1) / 8 = t := by omega
  have h2 : (n + 1) % 8 = j := by omega
  have h3 : k = (⟨(n + 1) / 8 % 8, Nat.mod_lt _ (by decide)⟩ : Fin 8) :=
    Fin.ext (by show k.val = (n + 1) / 8 % 8; have := k.isLt; omega)
  show _ = addf (F := F) (φ := .f32) (acc m c n) (term m c (n + 1))
  unfold term mac
  rw [← h3, h1, h2]

/-! ## Where the copies go -/

/-- Each slot has its semaphore in an array of two. -/
theorem sem2_inb {i : Nat} (h : i < 2) : ∀ x, (![i] : Fin 1 → Nat) x + S1.size x ≤ S2.size x := by
  intro x; fin_cases x; exact h

/-- The semaphores of the two copies of chunks -/
abbrev wSem (i : Nat) (h : i < 2) : DmaSem sig := ((cc0_scratch5.slice (Rect.unit (s := S2) ![i] S1.size (sem2_inb h))).squeeze S_ squeezes_S1_S_).sem
/-- and of the two copies of blocks. -/
abbrev xSem (i : Nat) (h : i < 2) : DmaSem sig := ((cc0_scratch6.slice (Rect.unit (s := S2) ![i] S1.size (sem2_inb h))).squeeze S_ squeezes_S1_S_).sem

/-- The chunks' semaphores are numbered below the receive semaphores, -/
theorem wSem_low (i : Nat) (h : i < 2) : (wSem i h).val < 13 := by
  have : ∀ i : Fin 2, (wSem i.val i.isLt).val < 13 := by decide
  exact this ⟨i, h⟩
/-- and so are the blocks'. -/
theorem xSem_low (i : Nat) (h : i < 2) : (xSem i h).val < 13 := by
  have : ∀ i : Fin 2, (xSem i.val i.isLt).val < 13 := by decide
  exact this ⟨i, h⟩

/-- The share of an argument that the copies into slot `i` take. -/
def half (i : Nat) : PosShare TreeShare := if i = 0 then fullShare.left else fullShare.right

/-- The share of the weights for the copies into slot `i`, -/
def wShare (c : Dev nD) (i : Nat) : sProp 𝕄 := (wM.view.loc (c : Thread nD τ) ↦[Finset.univ]{half i} W m c)
/-- and that of the input. -/
def xShare (c : Dev nD) (i : Nat) : sProp 𝕄 := (xM.view.loc (c : Thread nD τ) ↦[Finset.univ]{half i} X m c)

/-- No copy of a chunk into slot `i` is under way; -/
def idleW (c : Dev nD) (i : Nat) (h : i < 2) : sProp 𝕄 :=
  iprop((∃ v, ownsTc c (wfS i h) fullShare v) ∗ wShare m c i ∗ semVal ((c : Thread nD τ), .dma (wSem i h)) 0)
/-- that of chunk `j` of step `t` is. -/
def flyW (c : Dev nD) (t j i : Nat) (h : i < 2) : sProp 𝕄 := Fly c (wSem i h) (wfS i h) (chunk m c t j) (wShare m c i)
/-- No copy of a block into slot `i` is under way; -/
def idleX (c : Dev nD) (i : Nat) (h : i < 2) : sProp 𝕄 :=
  iprop((∃ v, ownsTc c (stS i h) fullShare v) ∗ xShare m c i ∗ semVal ((c : Thread nD τ), .dma (xSem i h)) 0)
/-- that of the block for the device `k` places on is. -/
def flyX (c : Dev nD) (k : Fin 8) (i : Nat) (h : i < 2) : sProp 𝕄 :=
  Fly c (xSem i h) (stS i h) (xRows (X m c) (1024 * (dst c k).val)) (xShare m c i)

/-- A narrowed chunk in slot `i`; -/
def heldW (c : Dev nD) (t j i : Nat) (h : i < 2) : sProp 𝕄 := ownsTc c (wbS i h) fullShare (narrow (chunk m c t j))
/-- anything there. -/
def freeW (c : Dev nD) (i : Nat) (h : i < 2) : sProp 𝕄 := iprop(∃ v : S128x4096.Idx → Elt F .bf16, ownsTc c (wbS i h) fullShare v)
/-- The narrowed block for the device `k` places on, in slot `i`; -/
def heldS (c : Dev nD) (k : Fin 8) (i : Nat) (h : i < 7) : sProp 𝕄 := ownsTc c (xsS i h) fullShare (blk m c (dst c k))
/-- the result block at `o`. -/
def sofar (c : Dev nD) (o : S1024x4096.Idx → Elt F .f32) : sProp 𝕄 := ownsTc c oM fullShare o

/-- The device no places before a device is itself, -/
theorem src_zero : ∀ c : Dev nD, src c 0 = c := by decide
/-- and so is that no places after. -/
theorem dst_zero : ∀ c : Dev nD, dst c 0 = c := by decide

section Steps
variable (c : Dev nD) {Q : PUnit.{1} → sProp (MT nD τ sig Unit (Elt F) ℕ UU ℕ)}

/-- Starting the copy of a chunk. -/
theorem wp_fetchW (t j i : Nat) (h : i < 2) (off : Fin 2 → Nat) (hoff : off = ![row c t j, 0])
    {hi : ∀ x, off x + S128x4096.size x ≤ S8192x4096.size x}
    {h1 : (wM.slice (Rect.unit (s := S8192x4096) off S128x4096.size hi) (fun _ => rfl)).view.WordExact}
    {h2 : (wfS i h).view.WordExact} {h3 : DmaTarget.Typed (nD := nD) (τ := τ) .hbm (.dma (wSem i h)) (DmaTarget.here (p := (c : Thread nD τ).2) (wfS i h))}
    {k : PUnit → Prog (TpuEff nD τ sig (Elt F) Λ₀ .tc) PUnit} :
    idleW m c i h
      ⊢ iprop((flyW m c t j i h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wM.slice (Rect.unit (s := S8192x4096) off S128x4096.size hi) (fun _ => rfl)) (.here (wfS i h)) (.dma (wSem i h)) h1 h2 h3) k) Q) := by
  unfold idleW flyW
  iintro ⟨⟨%v, Hd⟩, HS, Hv⟩ Hk
  iapply (wp_fetch c wM (Rect.unit (s := S8192x4096) off S128x4096.size hi) (fun _ => rfl) (wfS i h) (wSem i h) (show 0 < S128x4096.numel by decide) Finset.univ
    (Finset.subset_univ _) (half i) (W m c) (chunk m c t j) (read_wRows off (row c t j) hoff hi (W m c)) v) $$ [Hd HS Hv]
  · isplitl [HS]; · unfold wShare; iexact HS
    isplitl [Hd] <;> iassumption
  iintro HF
  iapply Hk
  unfold wShare
  iexact HF

/-- Starting it only when there is a next step. -/
theorem wp_fetchW_if (P : Prop) [Decidable P] (R : Prop) [Decidable R] (hPR : P ↔ R) (t j i : Nat) (h : i < 2) (off : Fin 2 → Nat)
    (hoff : P → off = ![row c t j, 0])
    {hi : P → ∀ x, off x + S128x4096.size x ≤ S8192x4096.size x}
    {h1 : ∀ hp : P, (wM.slice (Rect.unit (s := S8192x4096) off S128x4096.size (hi hp)) (fun _ => rfl)).view.WordExact}
    {h2 : (wfS i h).view.WordExact} {h3 : DmaTarget.Typed (nD := nD) (τ := τ) .hbm (.dma (wSem i h)) (DmaTarget.here (p := (c : Thread nD τ).2) (wfS i h))}
    {e : Prog (TpuEff nD τ sig (Elt F) Λ₀ .tc) PUnit} :
    idleW m c i h
      ⊢ iprop(((if R then flyW m c t j i h else idleW m c i h) -∗ wp frame (wpE (defs₀ (F := F)) 𝒱₀ (c : Thread nD τ) none) Set.univ e Q)
          -∗ wp frame (wpE (defs₀ (F := F)) 𝒱₀ (c : Thread nD τ) none) Set.univ
            (if hp : P then
                (.op (.enqueueDma (wM.slice (Rect.unit (s := S8192x4096) off S128x4096.size (hi hp)) (fun _ => rfl)) (.here (wfS i h)) (.dma (wSem i h))
                  (h1 hp) h2 h3) fun _ => e)
              else e) Q) := by
  by_cases hp : P
  · rw [dif_pos hp, if_pos (hPR.mp hp)]
    exact wp_fetchW m c t j i h off (hoff hp) (k := fun _ => e)
  · rw [dif_neg hp, if_neg (fun hr => hp (hPR.mpr hr))]
    iintro H Hk
    iapply Hk; iexact H

/-- What follows a choice follows each of its branches. -/
theorem bind_dite {α β : Type} {P : Prop} [Decidable P] (a : P → Prog (TpuEff nD τ sig (Elt F) Λ₀ .tc) α)
    (b : ¬ P → Prog (TpuEff nD τ sig (Elt F) Λ₀ .tc) α) (k : α → Prog (TpuEff nD τ sig (Elt F) Λ₀ .tc) β) :
    (if h : P then a h else b h) >>= k = if h : P then a h >>= k else b h >>= k := by
  by_cases h : P
  · rw [dif_pos h, dif_pos h]
  · rw [dif_neg h, dif_neg h]

/-- A chunk landed and narrowed. -/
theorem wp_chunk (t j i : Nat) (h : i < 2) {s' : Shape} {e' : EltTy} {sp' : Space} (srcw : Memref sig .tc sp' s' e')
    {h1 h2 g1 g2 g3 hl hl' hx hm} {k} :
    iprop(flyW m c t j i h ∗ freeW c i h ∗ owe c 0)
      ⊢ iprop(((idleW m c i h ∗ heldW m c t j i h ∗ owe c 0)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (wSem i h) srcw (wfS i h) h1 h2) fun _ =>
              .op (.load wfM (Rect.unit (s := S2x128x4096) ![i, 0, 0] S1x128x4096.size g1).toLoadRect hl) fun v =>
              .op (.load wbM (Rect.unit (s := S2x128x4096) ![i, 0, 0] S1x128x4096.size g2).toLoadRect hl') fun _ =>
              .op (.store wbM (Rect.unit (s := S2x128x4096) ![i, 0, 0] S1x128x4096.size g3) (k0_pay1 v) Finset.univ hx hm) k) Q) := by
  unfold flyW freeW
  iintro ⟨HF, Hb, HO⟩ Hk
  iapply (wp_castW c i h (wSem i h) srcw (chunk m c t j) (wShare m c i) 0) $$ [HF Hb HO]
  · isplitl [HF]; · iexact HF
    isplitl [Hb]; · iexact Hb
    isplitl [HO]; · iexact HO
    rw [MayWait_zero]; iempintro
  iintro ⟨Hf, Hb, HT, Hv, HO⟩
  iapply Hk
  unfold idleW heldW
  isplitl [Hf HT Hv]
  · isplitl [Hf]; · iexists _; iexact Hf
    isplitl [HT] <;> iassumption
  isplitl [Hb] <;> iassumption

/-- The first product. -/
theorem wp_term0 (off : Fin 3 → Nat) (hoff : off = ![0, 0, 0]) {g1 g2 g3 g4 hl1 hl2 hl3 hx hm} {k} :
    iprop(recvPay m c 0 ∗ heldW m c 0 0 0 (by decide) ∗ (∃ o, sofar c o))
      ⊢ iprop(((recvPay m c 0 ∗ freeW c 0 (by decide) ∗ sofar c (acc m c 0))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load xgM (Rect.unit (s := S8x1024x1024) off S1x1024x128.size g1).toLoadRect hl1) fun x =>
              .op (.load wbM (Rect.unit (s := S2x128x4096) ![0, 0, 0] S1x128x4096.size g2).toLoadRect hl2) fun y =>
              .op (.load oM (Rect.unit (s := S1024x4096) ![0, 0] S1024x4096.size g3).toLoadRect hl3) fun _ =>
              .op (.store oM (Rect.unit (s := S1024x4096) ![0, 0] S1024x4096.size g4) (k0_pay27 x y) Finset.univ hx hm) k) Q) := by
  unfold recvPay heldW sofar freeW
  iintro ⟨Hx, Hb, Ho⟩ Hk
  iapply (wp_first c 0 0 0 (by decide) (by decide) off hoff (blk m (src c 0) c) (narrow (chunk m c 0 0))) $$ [Hx Hb Ho]
  · isplitl [Hx]; · iexact Hx
    isplitl [Hb] <;> iassumption
  iintro ⟨Hx, Hb, Ho⟩
  iapply Hk
  isplitl [Hx]; · iexact Hx
  isplitl [Hb]; · iexists _; iexact Hb
  iexact Ho

/-- The next product added. -/
theorem wp_term (kk : Fin 8) (t j i n : Nat) (h : i < 2) (hk : kk.val = t) (hj : j < 8) (hn : n + 1 = 8 * t + j)
    (off : Fin 3 → Nat) (hoff : off = ![t, 0, 128 * j]) {g1 g2 g3 g4 g5 hl1 hl2 hl3 hl4 hx hm} {k} :
    iprop(recvPay m c kk ∗ heldW m c t j i h ∗ sofar c (acc m c n))
      ⊢ iprop(((recvPay m c kk ∗ freeW c i h ∗ sofar c (acc m c (n + 1)))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load xgM (Rect.unit (s := S8x1024x1024) off S1x1024x128.size g1).toLoadRect hl1) fun x =>
              .op (.load wbM (Rect.unit (s := S2x128x4096) ![i, 0, 0] S1x128x4096.size g2).toLoadRect hl2) fun y =>
              .op (.load oM (Rect.unit (s := S1024x4096) ![0, 0] S1024x4096.size g3).toLoadRect hl3) fun z =>
              .op (.load oM (Rect.unit (s := S1024x4096) ![0, 0] S1024x4096.size g4).toLoadRect hl4) fun _ =>
              .op (.store oM (Rect.unit (s := S1024x4096) ![0, 0] S1024x4096.size g5) (k0_pay2 x y z) Finset.univ hx hm) k) Q) := by
  unfold recvPay heldW sofar freeW
  iintro ⟨Hx, Hb, Ho⟩ Hk
  iapply (wp_mac c kk.val (128 * j) i kk.isLt h off (by rw [hoff, hk]) (blk m (src c kk) c) (narrow (chunk m c t j)) (acc m c n)) $$ [Hx Hb Ho]
  · isplitl [Hx]; · iexact Hx
    isplitl [Hb] <;> iassumption
  iintro ⟨Hx, Hb, Ho⟩
  iapply Hk
  rw [acc_next m c n t j kk hk hj hn]
  isplitl [Hx]; · iexact Hx
  isplitl [Hb]; · iexists _; iexact Hb
  iexact Ho

/-- Starting the copy of a block. -/
theorem wp_fetchX (kk : Fin 8) (i : Nat) (h : i < 2) (off : Fin 2 → Nat) (hoff : off = ![1024 * (dst c kk).val, 0])
    {hi : ∀ x, off x + S1024x1024.size x ≤ S8192x1024.size x}
    {h1 : (xM.slice (Rect.unit (s := S8192x1024) off S1024x1024.size hi) (fun _ => rfl)).view.WordExact}
    {h2 : (stS i h).view.WordExact} {h3 : DmaTarget.Typed (nD := nD) (τ := τ) .hbm (.dma (xSem i h)) (DmaTarget.here (p := (c : Thread nD τ).2) (stS i h))}
    {k : PUnit → Prog (TpuEff nD τ sig (Elt F) Λ₀ .tc) PUnit} :
    idleX m c i h
      ⊢ iprop((flyX m c kk i h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S8192x1024) off S1024x1024.size hi) (fun _ => rfl)) (.here (stS i h)) (.dma (xSem i h)) h1 h2 h3) k) Q) := by
  unfold idleX flyX
  iintro ⟨⟨%v, Hd⟩, HS, Hv⟩ Hk
  iapply (wp_fetch c xM (Rect.unit (s := S8192x1024) off S1024x1024.size hi) (fun _ => rfl) (stS i h) (xSem i h) (show 0 < S1024x1024.numel by decide) Finset.univ
    (Finset.subset_univ _) (half i) (X m c) (xRows (X m c) (1024 * (dst c kk).val)) (read_xRows off _ hoff hi (X m c)) v) $$ [Hd HS Hv]
  · isplitl [HS]; · unfold xShare; iexact HS
    isplitl [Hd] <;> iassumption
  iintro HF
  iapply Hk
  unfold xShare
  iexact HF

/-- A block landed and narrowed into the slot it will be sent from. -/
theorem wp_block (kk : Fin 8) (i j n : Nat) (h : i < 2) (hj : j < 7) {s' : Shape} {e' : EltTy} {sp' : Space} (srcw : Memref sig .tc sp' s' e')
    {h1 h2 g1 g2 g3 hl hl' hx hm} {k} :
    iprop(flyX m c kk i h ∗ (∃ v : S1024x1024.Idx → Elt F .bf16, ownsTc c (xsS j hj) fullShare v) ∗ owe c (Osend c n) ∗ levAts L lv)
      ⊢ iprop(((idleX m c i h ∗ heldS m c kk j hj ∗ owe c (Osend c n))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (xSem i h) srcw (stS i h) h1 h2) fun _ =>
              .op (.load stM (Rect.unit (s := S2x1024x1024) ![i, 0, 0] S1x1024x1024.size g1).toLoadRect hl) fun v =>
              .op (.load xsM (Rect.unit (s := S7x1024x1024) ![j, 0, 0] S1x1024x1024.size g2).toLoadRect hl') fun _ =>
              .op (.store xsM (Rect.unit (s := S7x1024x1024) ![j, 0, 0] S1x1024x1024.size g3) (k0_pay18 (k0_pay17 v)) Finset.univ hx hm) k) Q) := by
  unfold flyX
  iintro ⟨HF, Hb, HO, #HL⟩ Hk
  iapply (wp_castX c xsM i j h hj (xSem i h) srcw (xRows (X m c) (1024 * (dst c kk).val)) (xShare m c i) (Osend c n)) $$ [HF Hb HO]
  · isplitl [HF]; · iexact HF
    isplitl [Hb]; · iexact Hb
    isplitl [HO]; · iexact HO
    iapply (mayWait_send c _ (xSem_low i h) n); iexact HL
  iintro ⟨Hf, Hb, HT, Hv, HO⟩
  iapply Hk
  unfold idleX heldS blk
  isplitl [Hf HT Hv]
  · isplitl [Hf]; · iexists _; iexact Hf
    isplitl [HT] <;> iassumption
  isplitl [Hb] <;> iassumption

/-- The device's own block landed and narrowed into its slot of the gathered ones. -/
theorem wp_own {s' : Shape} {e' : EltTy} {sp' : Space} (srcw : Memref sig .tc sp' s' e') (i : Nat) (h : i < 2)
    {h1 h2 g1 g2 g3 hl hl' hx hm} {k} :
    iprop(flyX m c 0 i h ∗ (∃ v : S1024x1024.Idx → Elt F .bf16, ownsTc c (xgS 0 (by decide)) fullShare v) ∗ owe c 0)
      ⊢ iprop(((idleX m c i h ∗ recvPay m c 0 ∗ owe c 0)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (xSem i h) srcw (stS i h) h1 h2) fun _ =>
              .op (.load stM (Rect.unit (s := S2x1024x1024) ![i, 0, 0] S1x1024x1024.size g1).toLoadRect hl) fun v =>
              .op (.load xgM (Rect.unit (s := S8x1024x1024) ![0, 0, 0] S1x1024x1024.size g2).toLoadRect hl') fun _ =>
              .op (.store xgM (Rect.unit (s := S8x1024x1024) ![0, 0, 0] S1x1024x1024.size g3) (k0_pay18 (k0_pay17 v)) Finset.univ hx hm) k) Q) := by
  unfold flyX
  iintro ⟨HF, Hb, HO⟩ Hk
  iapply (wp_castX c xgM i 0 h (by decide) (xSem i h) srcw (xRows (X m c) (1024 * (dst c 0).val)) (xShare m c i) 0) $$ [HF Hb HO]
  · isplitl [HF]; · iexact HF
    isplitl [Hb]; · iexact Hb
    isplitl [HO]; · iexact HO
    rw [MayWait_zero]; iempintro
  iintro ⟨Hf, Hb, HT, Hv, HO⟩
  iapply Hk
  unfold idleX recvPay blk
  rw [src_zero, dst_zero]
  isplitl [Hf HT Hv]
  · isplitl [Hf]; · iexists _; iexact Hf
    isplitl [HT] <;> iassumption
  isplitl [Hb]; · iexact Hb
  iexact HO

end Steps

/-! ## The payloads of the body, all of five forms -/

section Pay
/-- A fetched chunk is narrowed here. -/
theorem pay4_3 (v) : k0_pay4 (F := F) (k0_pay3 v) = k0_pay1 v := rfl
/-- A fetched chunk is narrowed here. -/
theorem pay38_37 (v) : k0_pay38 (F := F) (k0_pay37 v) = k0_pay1 v := rfl
/-- A fetched chunk is narrowed here. -/
theorem pay6 : k0_pay6 (F := F) = k0_pay1 := rfl
/-- A fetched chunk is narrowed here. -/
theorem pay8 : k0_pay8 (F := F) = k0_pay1 := rfl
/-- A fetched chunk is narrowed here. -/
theorem pay11 : k0_pay11 (F := F) = k0_pay1 := rfl
/-- A fetched chunk is narrowed here. -/
theorem pay13 : k0_pay13 (F := F) = k0_pay1 := rfl
/-- A fetched chunk is narrowed here. -/
theorem pay15 : k0_pay15 (F := F) = k0_pay1 := rfl
/-- A fetched chunk is narrowed here. -/
theorem pay26 : k0_pay26 (F := F) = k0_pay1 := rfl
/-- A fetched chunk is narrowed here. -/
theorem pay28 : k0_pay28 (F := F) = k0_pay1 := rfl
/-- A fetched chunk is narrowed here. -/
theorem pay30 : k0_pay30 (F := F) = k0_pay1 := rfl
/-- A fetched chunk is narrowed here. -/
theorem pay33 : k0_pay33 (F := F) = k0_pay1 := rfl
/-- A fetched chunk is narrowed here. -/
theorem pay35 : k0_pay35 (F := F) = k0_pay1 := rfl
/-- A fetched chunk is narrowed here. -/
theorem pay40 : k0_pay40 (F := F) = k0_pay1 := rfl
/-- A fetched chunk is narrowed here. -/
theorem pay42 : k0_pay42 (F := F) = k0_pay1 := rfl
/-- A fetched chunk is narrowed here. -/
theorem pay45 : k0_pay45 (F := F) = k0_pay1 := rfl
/-- A product is added to the accumulator here. -/
theorem pay5 : k0_pay5 (F := F) = k0_pay2 := rfl
/-- A product is added to the accumulator here. -/
theorem pay7 : k0_pay7 (F := F) = k0_pay2 := rfl
/-- A product is added to the accumulator here. -/
theorem pay10_9 (a b o) : k0_pay10 (F := F) (k0_pay9 a) b o = k0_pay2 a b o := rfl
/-- A product is added to the accumulator here. -/
theorem pay12 : k0_pay12 (F := F) = k0_pay2 := rfl
/-- A product is added to the accumulator here. -/
theorem pay14 : k0_pay14 (F := F) = k0_pay2 := rfl
/-- A product is added to the accumulator here. -/
theorem pay16 : k0_pay16 (F := F) = k0_pay2 := rfl
/-- A product is added to the accumulator here. -/
theorem pay29 : k0_pay29 (F := F) = k0_pay2 := rfl
/-- A product is added to the accumulator here. -/
theorem pay32_31 (a b o) : k0_pay32 (F := F) (k0_pay31 a b) o = k0_pay2 a b o := rfl
/-- A product is added to the accumulator here. -/
theorem pay34 : k0_pay34 (F := F) = k0_pay2 := rfl
/-- A product is added to the accumulator here. -/
theorem pay36 : k0_pay36 (F := F) = k0_pay2 := rfl
/-- A product is added to the accumulator here. -/
theorem pay39 : k0_pay39 (F := F) = k0_pay2 := rfl
/-- A product is added to the accumulator here. -/
theorem pay41 : k0_pay41 (F := F) = k0_pay2 := rfl
/-- A product is added to the accumulator here. -/
theorem pay44_43 (a b o) : k0_pay44 (F := F) (k0_pay43 a b) o = k0_pay2 a b o := rfl
/-- A product is added to the accumulator here. -/
theorem pay46 : k0_pay46 (F := F) = k0_pay2 := rfl
/-- A fetched block is narrowed here. -/
theorem pay19 (v) : k0_pay19 (F := F) v = k0_pay18 (k0_pay17 v) := rfl
/-- A fetched block is narrowed here. -/
theorem pay20 (v) : k0_pay20 (F := F) v = k0_pay18 (k0_pay17 v) := rfl
/-- A fetched block is narrowed here. -/
theorem pay21 (v) : k0_pay21 (F := F) v = k0_pay18 (k0_pay17 v) := rfl
/-- A fetched block is narrowed here. -/
theorem pay22 (v) : k0_pay22 (F := F) v = k0_pay18 (k0_pay17 v) := rfl
/-- A fetched block is narrowed here. -/
theorem pay23 (v) : k0_pay23 (F := F) v = k0_pay18 (k0_pay17 v) := rfl
/-- A fetched block is narrowed here. -/
theorem pay24 (v) : k0_pay24 (F := F) v = k0_pay18 (k0_pay17 v) := rfl
/-- A fetched block is narrowed here. -/
theorem pay25 (v) : k0_pay25 (F := F) v = k0_pay18 (k0_pay17 v) := rfl
end Pay

/-! ## The offsets -/

/-- In the loop's trip `t` chunk `r` is read from the rows of step `t + 1`; -/
theorem off6 (c : Dev nD) (t : Fin k0_t1_loop.trips) (r : Fin 8) :
    k0_off6 c t (BitVec.ofNat 32 (128 * r.val)) = ![row c (t.val + 1) r.val, 0] := by
  rw [k0_off6_eq, show row c (t.val + 1) r.val = 1024 * (((c.val + 7) - t.val) % 8) + 128 * r.val by unfold row; omega]
/-- the first chunk of the step after it, where there is one, -/
theorem off13 (c : Dev nD) (t : Fin k0_t1_loop.trips) (h : k0_cond1 t = 1#1) : k0_off13 c t = ![row c (t.val + 2) 0, 0] := by
  rw [k0_off13_eq, show row c (t.val + 2) 0 = 1024 * (((c.val + 6) - t.val) % 8) by unfold row; omega]
/-- and the second, from theirs. -/
theorem off15 (c : Dev nD) (t : Fin k0_t1_loop.trips) (h : k0_cond2 t = 1#1) : k0_off15 c t = ![row c (t.val + 2) 1, 0] := by
  rw [k0_off15_eq, show row c (t.val + 2) 1 = 1024 * (((c.val + 6) - t.val) % 8) + 128 by unfold row; omega]
/-- Before the loop chunk `r` is read from the rows of step 0, -/
theorem off1 (c : Dev nD) (r : Fin 8) : k0_off1 c 8#32 (BitVec.ofNat 32 (128 * r.val)) = ![row c 0 r.val, 0] := by
  revert c r; decide +kernel
/-- and the first two of step 1 from theirs. -/
theorem off1' (c : Dev nD) (r : Fin 2) : k0_off1 c 7#32 (BitVec.ofNat 32 (128 * r.val)) = ![row c 1 r.val, 0] := by
  revert c r; decide +kernel
/-- The block for the device `k` places on is read from that device's rows, -/
theorem off2 (c : Dev nD) (r : Fin 8) (k : Fin 8) (hk : k.val = (r.val + 1) % 8) : k0_off2 c (BitVec.ofNat 32 (1 + r.val)) = ![1024 * (dst c k).val, 0] := by
  rw [k0_off2_eq, show (dst c k).val = (c.val + r.val + 1) % 8 by show (c.val + k.val) % 8 = _; omega]
/-- and the device's own block from its own rows. -/
theorem off3 (c : Dev nD) : k0_off3 c = ![1024 * (dst c 0).val, 0] := by
  rw [k0_off3_eq, show dst c 0 = c by revert c; decide]

/-- The loop makes seven trips. -/
theorem trips_eq : k0_t1_loop.trips = 7 := by decide
/-- A trip fetches the first chunk of the next step if there is one, -/
theorem cond1_iff (t : Fin k0_t1_loop.trips) : k0_cond1 t = 1#1 ↔ t.val + 2 ≤ 7 := by revert t; decide
/-- and the second likewise. -/
theorem cond2_iff (t : Fin k0_t1_loop.trips) : k0_cond2 t = 1#1 ↔ t.val + 2 ≤ 7 := by revert t; decide

end Cert.KernelIdeal.Exchange
-- ==== Proof.Trip.lean ====
/-
One trip of the body's loop: the block from the device `t + 1` places before is waited for and its eight products
with the chunks of the weights are added.
-/
module

public import proofs.«01_k».proof.Proof.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ)

/-- The semaphore of a landing, named through an offset. -/
theorem recv_at (k : Fin 8) (off : Fin 1 → Nat) (hoff : off = ![k.val]) (hi : ∀ x, off x + S1.size x ≤ S8.size x) :
    ((cc0_scratch8.slice (Rect.unit (s := S8) off S1.size hi)).squeeze S_ squeezes_S1_S_).sem = recvS k := by
  subst hoff; rfl

/-- What is held of the block `k` places before once it has landed. -/
def got (c : Dev nD) (k : Fin 8) : sProp 𝕄 := iprop(recvPay m c k ∗ semVal (recvCell c k) 0)
/-- What is held for it until then. -/
def due (c : Dev nD) (k : Fin 8) : sProp 𝕄 := iprop(cred (tallyAt (recvCell c k) () N) ∗ atPos ER (recvCell c k) 0 ∅ 0)
/-- The two copies of chunks of step `t`, under way if there is such a step. -/
def ahead (c : Dev nD) (t i : Nat) (h : i < 2) : sProp 𝕄 := if t ≤ 7 then flyW m c t i i h else idleW m c i h

/-- There is a slot 0 of two, -/
theorem z2 : 0 < 2 := by decide
/-- and a slot 1. -/
theorem o2 : 1 < 2 := by decide

section Trip
variable (c : Dev nD) (h0 : xM.IsWhole) (h1 : wM.IsWhole) (h2 : oM.IsWhole) (h3 : xgM.IsWhole) (h4 : xsM.IsWhole) (h5 : stM.IsWhole)
  (h6 : wfM.IsWhole) (h7 : wbM.IsWhole) (v2 : BitVec 32) (v550 : FVec F S1024x4096 .f32)

/-- The loop's body at this kernel's buffers. -/
abbrev loopBody : Fin k0_t1_loop.trips → Unit → Prog (TpuEff nD τ sig (Elt F) Λ₀ .tc) Unit :=
  k0_t1_body (F := F) xM h0 wM h1 oM h2 xgM h3 xsM h4 stM h5 wfM h6 wbM h7 cc0_scratch5 cc0_scratch6 cc0_scratch7 cc0_scratch8 c v2 v550

set_option maxHeartbeats 2000000 in
/-- One trip. -/
theorem wp_trip (t : Fin k0_t1_loop.trips) (k : Fin 8) (hk : k.val = t.val + 1) (hk0 : k ≠ 0) (u : Unit) :
    iprop(records m K ∗ sofar c (acc m c (8 * t.val + 7)) ∗ due c k ∗ flyW m c (t.val + 1) 0 0 (by decide) ∗ flyW m c (t.val + 1) 1 1 (by decide)
        ∗ freeW c 0 (by decide) ∗ freeW c 1 (by decide) ∗ owe c 0)
      ⊢ wp frame (wpE (defs₀ (F := F)) 𝒱₀ (c : Thread nD τ) none) Set.univ (loopBody c h0 h1 h2 h3 h4 h5 h6 h7 v2 v550 t u)
          (fun _ => iprop(sofar c (acc m c (8 * (t.val + 1) + 7)) ∗ got m c k ∗ ahead m c (t.val + 2) 0 (by decide) ∗ ahead m c (t.val + 2) 1 (by decide)
            ∗ freeW c 0 (by decide) ∗ freeW c 1 (by decide) ∗ owe c 0)) := by
  unfold loopBody k0_t1_body due
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, bind_dite, pay4_3, pay5, pay6, pay7, pay8, pay10_9,
    pay11, pay12, pay13, pay14, pay15, pay16, pay45, pay46]
  iintro ⟨#HR, Ho, ⟨HC, HA⟩, Hw0, Hw1, Hb0, Hb1, HO⟩
  iapply (wp_arrive m K c k hk0 _ (recv_at k _ (by rw [k0_off4_eq, hk]) _) (xsS 0 (by decide))
    ((xgM.slice (Rect.unit (s := S8x1024x1024) (k0_off5 t) S1x1024x1024.size (k0_off5_inb t)) (fun _ => rfl)).squeeze S1024x1024
      squeezes_S1x1024x1024_S1024x1024) rfl) $$ [HC HA HO]
  · isplitr; · iexact HR
    isplitl [HC]; · iexact HC
    isplitl [HO] <;> iassumption
  iintro ⟨HO, Hv, Hx⟩
  iapply (wp_chunk m c (t.val + 1) 0 0 z2 _) $$ [Hw0 Hb0 HO]
  · isplitl [Hw0]; · iexact Hw0
    isplitl [Hb0] <;> iassumption
  iintro ⟨Hw0, Hb0, HO⟩
  iapply (wp_fetchW m c (t.val + 1) 2 0 z2 _ (off6 c t 2)) $$ Hw0
  iintro Hw0
  iapply (wp_term m c k (t.val + 1) 0 0 (8 * t.val + 7) z2 hk (by decide) (by omega) _ (k0_off7_eq t)) $$ [Hx Hb0 Ho]
  · isplitl [Hx]; · iexact Hx
    isplitl [Hb0] <;> iassumption
  iintro ⟨Hx, Hb0, Ho⟩
  iapply (wp_chunk m c (t.val + 1) 1 1 o2 _) $$ [Hw1 Hb1 HO]
  · isplitl [Hw1]; · iexact Hw1
    isplitl [Hb1] <;> iassumption
  iintro ⟨Hw1, Hb1, HO⟩
  iapply (wp_fetchW m c (t.val + 1) 3 1 o2 _ (off6 c t 3)) $$ Hw1
  iintro Hw1
  iapply (wp_term m c k (t.val + 1) 1 1 (8 * t.val + 8) o2 hk (by decide) (by omega) _ (k0_off8_eq t)) $$ [Hx Hb1 Ho]
  · isplitl [Hx]; · iexact Hx
    isplitl [Hb1] <;> iassumption
  iintro ⟨Hx, Hb1, Ho⟩
  iapply (wp_chunk m c (t.val + 1) 2 0 z2 _) $$ [Hw0 Hb0 HO]
  · isplitl [Hw0]; · iexact Hw0
    isplitl [Hb0] <;> iassumption
  iintro ⟨Hw0, Hb0, HO⟩
  iapply (wp_fetchW m c (t.val + 1) 4 0 z2 _ (off6 c t 4)) $$ Hw0
  iintro Hw0
  iapply (wp_term m c k (t.val + 1) 2 0 (8 * t.val + 9) z2 hk (by decide) (by omega) _ (k0_off9_eq t)) $$ [Hx Hb0 Ho]
  · isplitl [Hx]; · iexact Hx
    isplitl [Hb0] <;> iassumption
  iintro ⟨Hx, Hb0, Ho⟩
  iapply (wp_chunk m c (t.val + 1) 3 1 o2 _) $$ [Hw1 Hb1 HO]
  · isplitl [Hw1]; · iexact Hw1
    isplitl [Hb1] <;> iassumption
  iintro ⟨Hw1, Hb1, HO⟩
  iapply (wp_fetchW m c (t.val + 1) 5 1 o2 _ (off6 c t 5)) $$ Hw1
  iintro Hw1
  iapply (wp_term m c k (t.val + 1) 3 1 (8 * t.val + 10) o2 hk (by decide) (by omega) _ (k0_off10_eq t)) $$ [Hx Hb1 Ho]
  · isplitl [Hx]; · iexact Hx
    isplitl [Hb1] <;> iassumption
  iintro ⟨Hx, Hb1, Ho⟩
  iapply (wp_chunk m c (t.val + 1) 4 0 z2 _) $$ [Hw0 Hb0 HO]
  · isplitl [Hw0]; · iexact Hw0
    isplitl [Hb0] <;> iassumption
  iintro ⟨Hw0, Hb0, HO⟩
  iapply (wp_fetchW m c (t.val + 1) 6 0 z2 _ (off6 c t 6)) $$ Hw0
  iintro Hw0
  iapply (wp_term m c k (t.val + 1) 4 0 (8 * t.val + 11) z2 hk (by decide) (by omega) _ (k0_off11_eq t)) $$ [Hx Hb0 Ho]
  · isplitl [Hx]; · iexact Hx
    isplitl [Hb0] <;> iassumption
  iintro ⟨Hx, Hb0, Ho⟩
  iapply (wp_chunk m c (t.val + 1) 5 1 o2 _) $$ [Hw1 Hb1 HO]
  · isplitl [Hw1]; · iexact Hw1
    isplitl [Hb1] <;> iassumption
  iintro ⟨Hw1, Hb1, HO⟩
  iapply (wp_fetchW m c (t.val + 1) 7 1 o2 _ (off6 c t 7)) $$ Hw1
  iintro Hw1
  iapply (wp_term m c k (t.val + 1) 5 1 (8 * t.val + 12) o2 hk (by decide) (by omega) _ (k0_off12_eq t)) $$ [Hx Hb1 Ho]
  · isplitl [Hx]; · iexact Hx
    isplitl [Hb1] <;> iassumption
  iintro ⟨Hx, Hb1, Ho⟩
  iapply (wp_chunk m c (t.val + 1) 6 0 z2 _) $$ [Hw0 Hb0 HO]
  · isplitl [Hw0]; · iexact Hw0
    isplitl [Hb0] <;> iassumption
  iintro ⟨Hw0, Hb0, HO⟩
  iapply (wp_fetchW_if m c _ (t.val + 2 ≤ 7) (cond1_iff t) (t.val + 2) 0 0 z2 _ (off13 c t)) $$ Hw0
  iintro Hw0
  iapply (wp_term m c k (t.val + 1) 6 0 (8 * t.val + 13) z2 hk (by decide) (by omega) _ (k0_off14_eq t)) $$ [Hx Hb0 Ho]
  · isplitl [Hx]; · iexact Hx
    isplitl [Hb0] <;> iassumption
  iintro ⟨Hx, Hb0, Ho⟩
  iapply (wp_chunk m c (t.val + 1) 7 1 o2 _) $$ [Hw1 Hb1 HO]
  · isplitl [Hw1]; · iexact Hw1
    isplitl [Hb1] <;> iassumption
  iintro ⟨Hw1, Hb1, HO⟩
  iapply (wp_fetchW_if m c _ (t.val + 2 ≤ 7) (cond2_iff t) (t.val + 2) 1 1 o2 _ (off15 c t)) $$ Hw1
  iintro Hw1
  iapply (wp_term m c k (t.val + 1) 7 1 (8 * t.val + 14) o2 hk (by decide) (by omega) _ (k0_off16_eq t)) $$ [Hx Hb1 Ho]
  · isplitl [Hx]; · iexact Hx
    isplitl [Hb1] <;> iassumption
  iintro ⟨Hx, Hb1, Ho⟩
  rw [wp_ret]
  imodintro
  unfold got ahead
  isplitl [Ho]; · iexact Ho
  isplitl [Hx Hv]; · isplitl [Hx] <;> iassumption
  isplitl [Hw0]; · iexact Hw0
  isplitl [Hw1]; · iexact Hw1
  isplitl [Hb0]; · iexact Hb0
  isplitl [Hb1] <;> iassumption

/-- The block `k` places before, after `n` trips of the loop. -/
def block (c : Dev nD) (n : Nat) (k : Fin 8) : sProp 𝕄 := if k.val ≤ n then got m c k else due c k

/-- What holds after `n` trips. -/
def Inv (n : Nat) (_ : Unit) : sProp 𝕄 :=
  iprop(records m K ∗ bigSep Finset.univ (block m c n) ∗ sofar c (acc m c (8 * n + 7)) ∗ ahead m c (n + 1) 0 z2 ∗ ahead m c (n + 1) 1 o2
    ∗ freeW c 0 z2 ∗ freeW c 1 o2 ∗ owe c 0)

/-- A trip leads from the invariant to the next. -/
theorem inv_step (t : Fin k0_t1_loop.trips) (u : Unit) :
    Inv m K c t.val u ⊢ wp frame (wpE (defs₀ (F := F)) 𝒱₀ (c : Thread nD τ) none) Set.univ (loopBody c h0 h1 h2 h3 h4 h5 h6 h7 v2 v550 t u)
      (Inv m K c (t.val + 1)) := by
  have ht : t.val < 7 := lt_of_lt_of_eq t.isLt trips_eq
  let k : Fin 8 := ⟨t.val + 1, by omega⟩
  have hk0 : k ≠ 0 := fun h => by have : t.val + 1 = 0 := congrArg Fin.val h; omega
  have e0 : block m c t.val k = due c k := if_neg (by show ¬ t.val + 1 ≤ t.val; omega)
  have e1 : block m c (t.val + 1) k = got m c k := if_pos (le_refl (t.val + 1))
  have ea : ∀ i h, ahead m c (t.val + 1) i h = flyW m c (t.val + 1) i i h := fun i h => if_pos (by omega)
  have upd : bigSep Finset.univ (block m c t.val) ⊢ iprop(due c k ∗ (got m c k -∗ bigSep Finset.univ (block m c (t.val + 1)))) := by
    rw [← e0, ← e1]
    exact bigSep_univ_update k fun j hj => by
      have : j.val ≠ t.val + 1 := fun h => hj (Fin.ext h)
      unfold block
      by_cases h : j.val ≤ t.val
      · rw [if_pos h, if_pos (by omega)]
      · rw [if_neg h, if_neg (by omega)]
  have trip := wp_trip m K c h0 h1 h2 h3 h4 h5 h6 h7 v2 v550 t k rfl hk0 u
  unfold Inv
  rw [ea, ea]
  iintro ⟨#HR, HB, Ho, Hw0, Hw1, Hb0, Hb1, HO⟩
  ihave H := upd $$ HB
  icases H with ⟨Hd, HB⟩
  iapply (trip.trans (wp_wand frame (wpE (defs₀ (F := F)) 𝒱₀ (c : Thread nD τ) none) Set.univ
    (Q' := fun _ => iprop(records m K ∗ bigSep Finset.univ (block m c (t.val + 1)) ∗ sofar c (acc m c (8 * (t.val + 1) + 7))
      ∗ ahead m c (t.val + 1 + 1) 0 z2 ∗ ahead m c (t.val + 1 + 1) 1 o2 ∗ freeW c 0 z2 ∗ freeW c 1 o2 ∗ owe c 0)))) $$ [Ho Hd Hw0 Hw1 Hb0 Hb1 HO]
  · isplitr; · iexact HR
    isplitl [Ho]; · iexact Ho
    isplitl [Hd]; · iexact Hd
    isplitl [Hw0]; · iexact Hw0
    isplitl [Hw1]; · iexact Hw1
    isplitl [Hb0]; · iexact Hb0
    isplitl [Hb1] <;> iassumption
  iintro %a ⟨Ho, Hg, Hw0, Hw1, Hb0, Hb1, HO⟩
  ihave HB := HB $$ Hg
  isplitr; · iexact HR
  isplitl [HB]; · iexact HB
  isplitl [Ho]; · iexact Ho
  isplitl [Hw0]; · iexact Hw0
  isplitl [Hw1]; · iexact Hw1
  isplitl [Hb0]; · iexact Hb0
  isplitl [Hb1] <;> iassumption

/-- The whole loop. -/
theorem wp_loop {kk : Unit → Prog (TpuEff nD τ sig (Elt F) Λ₀ .tc) PUnit} {Q : PUnit → sProp 𝕄} :
    Inv m K c 0 () ⊢ iprop((Inv m K c 7 () -∗ wp frame (wpE (defs₀ (F := F)) 𝒱₀ (c : Thread nD τ) none) Set.univ (kk ()) Q)
      -∗ wp frame (wpE (defs₀ (F := F)) 𝒱₀ (c : Thread nD τ) none) Set.univ
          (Scf.Loop.for k0_t1_loop k0_t1_ok ⟨⟩ (loopBody c h0 h1 h2 h3 h4 h5 h6 h7 v2 v550) >>= kk) Q) := by
  iintro HI Hk
  iapply (Scf.wp_for_bind frame (wpE (defs₀ (F := F)) 𝒱₀ (c : Thread nD τ) none) Set.univ k0_t1_loop.lb k0_t1_loop.ub k0_t1_loop.st
    k0_t1_ok () (loopBody c h0 h1 h2 h3 h4 h5 h6 h7 v2 v550) (Inv m K c) (inv_step m K c h0 h1 h2 h3 h4 h5 h6 h7 v2 v550)) $$ HI
  iintro %u HI
  iapply Hk
  iexact HI

end Trip

end Cert.KernelIdeal.Exchange
-- ==== Proof.Stretches.lean ====
/-
The stretches of the body between the announcements and the loop: the fetches and sends of the blocks, and the
products with the device's own block.
-/
module

public import proofs.«01_k».proof.Proof.Trip

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ)

/-! The devices the body names. -/
/-- The device of barrier signal 1 is 1 place on. -/
theorem dev1_eq (c : Dev nD) : (⟨k0_dev1 c, k0_dev1_lt c⟩ : Dev nD) = dst c 1 := Fin.ext (k0_dev1_eq c)
/-- The device of barrier signal 2 is 2 places on. -/
theorem dev2_eq (c : Dev nD) : (⟨k0_dev2 c, k0_dev2_lt c⟩ : Dev nD) = dst c 2 := Fin.ext (k0_dev2_eq c)
/-- The device of barrier signal 3 is 3 places on. -/
theorem dev3_eq (c : Dev nD) : (⟨k0_dev3 c, k0_dev3_lt c⟩ : Dev nD) = dst c 3 := Fin.ext (k0_dev3_eq c)
/-- The device of barrier signal 4 is 4 places on. -/
theorem dev4_eq (c : Dev nD) : (⟨k0_dev4 c, k0_dev4_lt c⟩ : Dev nD) = dst c 4 := Fin.ext (k0_dev4_eq c)
/-- The device of barrier signal 5 is 5 places on. -/
theorem dev5_eq (c : Dev nD) : (⟨k0_dev5 c, k0_dev5_lt c⟩ : Dev nD) = dst c 5 := Fin.ext (k0_dev5_eq c)
/-- The device of barrier signal 6 is 6 places on. -/
theorem dev6_eq (c : Dev nD) : (⟨k0_dev6 c, k0_dev6_lt c⟩ : Dev nD) = dst c 6 := Fin.ext (k0_dev6_eq c)
/-- The device of barrier signal 7 is 7 places on. -/
theorem dev7_eq (c : Dev nD) : (⟨k0_dev7 c, k0_dev7_lt c⟩ : Dev nD) = dst c 7 := Fin.ext (k0_dev7_eq c)
/-- The device that remote copy 1 goes to is 1 place on. -/
theorem dev8_eq (c : Dev nD) : (⟨k0_dev8 c, k0_dev8_lt c⟩ : Dev nD) = dst c 1 := Fin.ext (k0_dev8_eq c)
/-- The device that remote copy 2 goes to is 2 places on. -/
theorem dev9_eq (c : Dev nD) : (⟨k0_dev9 c, k0_dev9_lt c⟩ : Dev nD) = dst c 2 := Fin.ext (k0_dev9_eq c)
/-- The device that remote copy 3 goes to is 3 places on. -/
theorem dev10_eq (c : Dev nD) : (⟨k0_dev10 c, k0_dev10_lt c⟩ : Dev nD) = dst c 3 := Fin.ext (k0_dev10_eq c)
/-- The device that remote copy 4 goes to is 4 places on. -/
theorem dev11_eq (c : Dev nD) : (⟨k0_dev11 c, k0_dev11_lt c⟩ : Dev nD) = dst c 4 := Fin.ext (k0_dev11_eq c)
/-- The device that remote copy 5 goes to is 5 places on. -/
theorem dev12_eq (c : Dev nD) : (⟨k0_dev12 c, k0_dev12_lt c⟩ : Dev nD) = dst c 5 := Fin.ext (k0_dev12_eq c)
/-- The device that remote copy 6 goes to is 6 places on. -/
theorem dev13_eq (c : Dev nD) : (⟨k0_dev13 c, k0_dev13_lt c⟩ : Dev nD) = dst c 6 := Fin.ext (k0_dev13_eq c)
/-- The device that remote copy 7 goes to is 7 places on. -/
theorem dev14_eq (c : Dev nD) : (⟨k0_dev14 c, k0_dev14_lt c⟩ : Dev nD) = dst c 7 := Fin.ext (k0_dev14_eq c)

/-- What announcing to the device `k` places on takes: the right to, and the slot announced. -/
def ping (c : Dev nD) (k : Fin 8) : sProp 𝕄 :=
  iprop(dutyTok ER (barCell (dst c k)) 0 (back k) ∗ ∃ v, ownsTc c (xgS (back k).val (back k).isLt) fullShare v)
/-- What sending to it takes: the rights at both ends. -/
def ship (c : Dev nD) (k : Fin 8) : sProp 𝕄 := iprop(dutyTok ER (sendCell c k) 0 0 ∗ dutyTok ER (recvCell (dst c k) k) 0 0)
/-- What a send leaves to wait for. -/
def out (c : Dev nD) (k : Fin 8) : sProp 𝕄 := cred (tallyAt (sendCell c k) () N)
/-- All that sending a block there takes. -/
def able (c : Dev nD) (k : Fin 8) : sProp 𝕄 := iprop(sendPay c k ∗ barPay c k ∗ ship c k)

section Relay
variable (c : Dev nD) {Q : PUnit.{1} → sProp (MT nD τ sig Unit (Elt F) ℕ UU ℕ)}

/-- A block landed, narrowed and sent, the next one fetched into its place. -/
theorem wp_relay (kk kk' : Fin 8) (i j n : Nat) (h : i < 2) (hj : j < 7) (hk : kk = turn n) (hk0 : kk ≠ 0) (hjk : j = (kk.val + 6) % 7)
    (d : Dev nD) (hd : d = dst c kk) (off : Fin 2 → Nat) (hoff : off = ![1024 * (dst c kk').val, 0])
    {s' : Shape} {e' : EltTy} {sp' : Space} (srcw : Memref sig .tc sp' s' e')
    {h1 h2 g1 g2 g3 hl hl' hx hm hi a1 a2 a3 hsc hsrc hdst hsem} {k} :
    iprop(records m K ∗ levAts L lv ∗ flyX m c kk i h ∗ able c kk ∗ owe c (Osend c (n + 1)))
      ⊢ iprop(((flyX m c kk' i h ∗ out c kk ∗ owe c (Osend c n)) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (xSem i h) srcw (stS i h) h1 h2) fun _ =>
              .op (.load stM (Rect.unit (s := S2x1024x1024) ![i, 0, 0] S1x1024x1024.size g1).toLoadRect hl) fun v =>
              .op (.load xsM (Rect.unit (s := S7x1024x1024) ![j, 0, 0] S1x1024x1024.size g2).toLoadRect hl') fun _ =>
              .op (.store xsM (Rect.unit (s := S7x1024x1024) ![j, 0, 0] S1x1024x1024.size g3) (k0_pay18 (k0_pay17 v)) Finset.univ hx hm) fun _ =>
              .op (.enqueueDma (xM.slice (Rect.unit (s := S8192x1024) off S1024x1024.size hi) (fun _ => rfl)) (.here (stS i h)) (.dma (xSem i h)) a1 a2 a3) fun _ =>
              .op (.enqueueDma (xsS j hj) (.remote (Dev.tc d : Thread nD τ) (xgS kk.val kk.isLt) (.dma (sendS kk)) hsc) (.dma (recvS kk)) hsrc hdst hsem) k) Q) := by
  unfold able ship sendPay
  iintro ⟨#HR, #HL, Hx, ⟨Hy, Hq, HT, HT'⟩, HO⟩ Hk
  subst hjk
  iapply (wp_block m c kk i _ (n + 1) h hj srcw) $$ [Hx Hy HO]
  · isplitl [Hx]; · iexact Hx
    isplitl [Hy]; · iexact Hy
    isplitl [HO]; · iexact HO
    iexact HL
  iintro ⟨Hx, Hh, HO⟩
  iapply (wp_fetchX m c kk' i h off hoff) $$ Hx
  iintro Hx
  unfold heldS
  iapply (wp_ship m K c kk n hk hk0 d hd _ hj rfl) $$ [Hh Hq HO HT HT']
  · isplitr; · iexact HR
    isplitl [Hh]; · iexact Hh
    isplitl [Hq]; · iexact Hq
    isplitl [HO]; · iexact HO
    isplitl [HT] <;> iassumption
  iintro ⟨Hc, HO⟩
  iapply Hk
  isplitl [Hx]; · iexact Hx
  unfold out
  isplitl [Hc] <;> iassumption

/-- A chunk landed and narrowed, the next one fetched into its place, and its product added. -/
theorem wp_work (kk : Fin 8) (t j i n t' j' : Nat) (h : i < 2) (hk : kk.val = t) (hj : j < 8) (hn : n + 1 = 8 * t + j)
    (off : Fin 3 → Nat) (hoff : off = ![t, 0, 128 * j]) (off' : Fin 2 → Nat) (hoff' : off' = ![row c t' j', 0])
    {s' : Shape} {e' : EltTy} {sp' : Space} (srcw : Memref sig .tc sp' s' e')
    {h1 h2 g1 g2 g3 hl hl' hx hm hi a1 a2 a3 b1 b2 b3 b4 b5 hl1 hl2 hl3 hl4 hx' hm'} {k} :
    iprop(flyW m c t j i h ∗ freeW c i h ∗ owe c 0 ∗ recvPay m c kk ∗ sofar c (acc m c n))
      ⊢ iprop(((flyW m c t' j' i h ∗ freeW c i h ∗ owe c 0 ∗ recvPay m c kk ∗ sofar c (acc m c (n + 1))) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (wSem i h) srcw (wfS i h) h1 h2) fun _ =>
              .op (.load wfM (Rect.unit (s := S2x128x4096) ![i, 0, 0] S1x128x4096.size g1).toLoadRect hl) fun v =>
              .op (.load wbM (Rect.unit (s := S2x128x4096) ![i, 0, 0] S1x128x4096.size g2).toLoadRect hl') fun _ =>
              .op (.store wbM (Rect.unit (s := S2x128x4096) ![i, 0, 0] S1x128x4096.size g3) (k0_pay1 v) Finset.univ hx hm) fun _ =>
              .op (.enqueueDma (wM.slice (Rect.unit (s := S8192x4096) off' S128x4096.size hi) (fun _ => rfl)) (.here (wfS i h)) (.dma (wSem i h)) a1 a2 a3) fun _ =>
              .op (.load xgM (Rect.unit (s := S8x1024x1024) off S1x1024x128.size b1).toLoadRect hl1) fun x =>
              .op (.load wbM (Rect.unit (s := S2x128x4096) ![i, 0, 0] S1x128x4096.size b2).toLoadRect hl2) fun y =>
              .op (.load oM (Rect.unit (s := S1024x4096) ![0, 0] S1024x4096.size b3).toLoadRect hl3) fun z =>
              .op (.load oM (Rect.unit (s := S1024x4096) ![0, 0] S1024x4096.size b4).toLoadRect hl4) fun _ =>
              .op (.store oM (Rect.unit (s := S1024x4096) ![0, 0] S1024x4096.size b5) (k0_pay2 x y z) Finset.univ hx' hm') k) Q) := by
  iintro ⟨Hw, Hb, HO, Hx, Ho⟩ Hk
  iapply (wp_chunk m c t j i h srcw) $$ [Hw Hb HO]
  · isplitl [Hw]; · iexact Hw
    isplitl [Hb] <;> iassumption
  iintro ⟨Hw, Hb, HO⟩
  iapply (wp_fetchW m c t' j' i h off' hoff') $$ Hw
  iintro Hw
  iapply (wp_term m c kk t j i n h hk hj hn off hoff) $$ [Hx Hb Ho]
  · isplitl [Hx]; · iexact Hx
    isplitl [Hb] <;> iassumption
  iintro ⟨Hx, Hb, Ho⟩
  iapply Hk
  isplitl [Hw]; · iexact Hw
  isplitl [Hb]; · iexact Hb
  isplitl [HO]; · iexact HO
  isplitl [Hx] <;> iassumption

end Relay

section Stretches
variable (c : Dev nD) (h0 : xM.IsWhole) (h1 : wM.IsWhole) (h2 : oM.IsWhole) (h3 : xgM.IsWhole) (h4 : xsM.IsWhole) (h5 : stM.IsWhole)
  (h6 : wfM.IsWhole) (h7 : wbM.IsWhole) {Q : PUnit.{1} → sProp (MT nD τ sig Unit (Elt F) ℕ UU ℕ)}

set_option maxHeartbeats 1000000 in
/-- The first three blocks sent, the next two on their way. -/
theorem wp_blocks1 (v2 v50 : BitVec 32) {kk : BitVec 32 → Prog (TpuEff nD τ sig (Elt F) Λ₀ .tc) PUnit} :
    iprop(records m K ∗ levAts L lv ∗ owe c (Osend c 7) ∗ able c 1 ∗ able c 2 ∗ able c 3 ∗ idleX m c 0 z2 ∗ idleX m c 1 o2)
      ⊢ iprop((∀ r, (owe c (Osend c 4) ∗ out c 1 ∗ out c 2 ∗ out c 3 ∗ flyX m c 5 0 z2 ∗ flyX m c 4 1 o2) -∗ wp frame (wpE (defs₀ (F := F)) 𝒱₀ (c : Thread nD τ) none) Set.univ (kk r) Q)
          -∗ wp frame (wpE (defs₀ (F := F)) 𝒱₀ (c : Thread nD τ) none) Set.univ
              (k0_part12 (F := F) xM h0 wM h1 oM h2 xgM h3 xsM h4 stM h5 wfM h6 wbM h7 cc0_scratch5 cc0_scratch6 cc0_scratch7 cc0_scratch8 c v2 v50 >>= fun r =>
                k0_part13 (F := F) xM h0 wM h1 oM h2 xgM h3 xsM h4 stM h5 wfM h6 wbM h7 cc0_scratch5 cc0_scratch6 cc0_scratch7 cc0_scratch8 c v2 r.1 r.2 >>= fun v99 =>
                k0_part14 (F := F) xM h0 wM h1 oM h2 xgM h3 xsM h4 stM h5 wfM h6 wbM h7 cc0_scratch5 cc0_scratch6 cc0_scratch7 cc0_scratch8 c v2 v99 >>= fun v131 =>
                k0_part15 (F := F) xM h0 wM h1 oM h2 xgM h3 xsM h4 stM h5 wfM h6 wbM h7 cc0_scratch5 cc0_scratch6 cc0_scratch7 cc0_scratch8 c v2 v131 >>= kk) Q) := by
  simp only [k0_part12_eq_skeleton, k0_part13_eq_skeleton, k0_part14_eq_skeleton, k0_part15_eq_skeleton]
  unfold k0_part12_skel k0_part13_skel k0_part14_skel k0_part15_skel
  simp only [Prog.lift, Prog.bind_op, Prog.bind_ret, Prog.pure_eq_ret, Prog.bind_assoc, pay19, pay20, pay21, pay22, pay23, pay24, pay25, pay26, pay28, pay29, pay30, pay32_31, pay33,
    pay34, pay35, pay36, pay38_37, pay39, pay40, pay41]
  iintro ⟨#HR, #HL, HO, Ha1, Ha2, Ha3, Hx0, Hx1⟩ Hk
  iapply (wp_fetchX m c 1 0 z2 _ (off2 c 0 1 (by decide))) $$ Hx0
  iintro Hx0
  iapply (wp_fetchX m c 2 1 o2 _ (off2 c 1 2 (by decide))) $$ Hx1
  iintro Hx1
  iapply (wp_relay m K c 1 3 0 0 6 z2 (show 0 < 7 by decide) (by decide) (by decide) (by decide) _
    (dev8_eq c) _ (off2 c 2 3 (by decide)) _) $$ [Hx0 Ha1 HO]
  · isplitr; · iexact HR
    isplitr; · iexact HL
    isplitl [Hx0]; · iexact Hx0
    isplitl [Ha1] <;> iassumption
  iintro ⟨Hx0, Hc1, HO⟩
  iapply (wp_relay m K c 2 4 1 1 5 o2 (show 1 < 7 by decide) (by decide) (by decide) (by decide) _
    (dev9_eq c) _ (off2 c 3 4 (by decide)) _) $$ [Hx1 Ha2 HO]
  · isplitr; · iexact HR
    isplitr; · iexact HL
    isplitl [Hx1]; · iexact Hx1
    isplitl [Ha2] <;> iassumption
  iintro ⟨Hx1, Hc2, HO⟩
  iapply (wp_relay m K c 3 5 0 2 4 z2 (show 2 < 7 by decide) (by decide) (by decide) (by decide) _
    (dev10_eq c) _ (off2 c 4 5 (by decide)) _) $$ [Hx0 Ha3 HO]
  · isplitr; · iexact HR
    isplitr; · iexact HL
    isplitl [Hx0]; · iexact Hx0
    isplitl [Ha3] <;> iassumption
  iintro ⟨Hx0, Hc3, HO⟩
  iapply Hk
  isplitl [HO]; · iexact HO
  isplitl [Hc1]; · iexact Hc1
  isplitl [Hc2]; · iexact Hc2
  isplitl [Hc3]; · iexact Hc3
  isplitl [Hx0]; · iexact Hx0
  iexact Hx1

set_option maxHeartbeats 1000000 in
/-- The next three sent, the last for another device narrowed. -/
theorem wp_blocks2 (v2 v163 : BitVec 32) {kk : PUnit → Prog (TpuEff nD τ sig (Elt F) Λ₀ .tc) PUnit} :
    iprop(records m K ∗ levAts L lv ∗ owe c (Osend c 4) ∗ able c 4 ∗ able c 5 ∗ able c 6 ∗ sendPay c 7 ∗ flyX m c 5 0 z2 ∗ flyX m c 4 1 o2)
      ⊢ iprop((∀ r, (owe c (Osend c 1) ∗ out c 4 ∗ out c 5 ∗ out c 6 ∗ idleX m c 0 z2 ∗ flyX m c 0 1 o2 ∗ heldS m c 7 6 (by decide)) -∗ wp frame (wpE (defs₀ (F := F)) 𝒱₀ (c : Thread nD τ) none) Set.univ (kk r) Q)
          -∗ wp frame (wpE (defs₀ (F := F)) 𝒱₀ (c : Thread nD τ) none) Set.univ
              (k0_part16 (F := F) xM h0 wM h1 oM h2 xgM h3 xsM h4 stM h5 wfM h6 wbM h7 cc0_scratch5 cc0_scratch6 cc0_scratch7 cc0_scratch8 c v2 v163 >>= fun _ =>
                k0_part17 (F := F) xM h0 wM h1 oM h2 xgM h3 xsM h4 stM h5 wfM h6 wbM h7 cc0_scratch5 cc0_scratch6 cc0_scratch7 cc0_scratch8 c v2 >>= fun _ =>
                k0_part18 (F := F) xM h0 wM h1 oM h2 xgM h3 xsM h4 stM h5 wfM h6 wbM h7 cc0_scratch5 cc0_scratch6 cc0_scratch7 cc0_scratch8 c v2 >>= fun v227 =>
                k0_part19 (F := F) xM h0 wM h1 oM h2 xgM h3 xsM h4 stM h5 wfM h6 wbM h7 cc0_scratch5 cc0_scratch6 cc0_scratch7 cc0_scratch8 c v2 v227 >>= kk) Q) := by
  simp only [k0_part16_eq_skeleton, k0_part17_eq_skeleton, k0_part18_eq_skeleton, k0_part19_eq_skeleton]
  unfold k0_part16_skel k0_part17_skel k0_part18_skel k0_part19_skel
  simp only [Prog.lift, Prog.bind_op, Prog.bind_ret, Prog.pure_eq_ret, Prog.bind_assoc, pay19, pay20, pay21, pay22, pay23, pay24, pay25, pay26, pay28, pay29, pay30, pay32_31, pay33,
    pay34, pay35, pay36, pay38_37, pay39, pay40, pay41]
  iintro ⟨#HR, #HL, HO, Ha4, Ha5, Ha6, Hy, Hx0, Hx1⟩ Hk
  iapply (wp_relay m K c 4 6 1 3 3 o2 (show 3 < 7 by decide) (by decide) (by decide) (by decide) _
    (dev11_eq c) _ (off2 c 5 6 (by decide)) _) $$ [Hx1 Ha4 HO]
  · isplitr; · iexact HR
    isplitr; · iexact HL
    isplitl [Hx1]; · iexact Hx1
    isplitl [Ha4] <;> iassumption
  iintro ⟨Hx1, Hc4, HO⟩
  iapply (wp_relay m K c 5 7 0 4 2 z2 (show 4 < 7 by decide) (by decide) (by decide) (by decide) _
    (dev12_eq c) _ (off2 c 6 7 (by decide)) _) $$ [Hx0 Ha5 HO]
  · isplitr; · iexact HR
    isplitr; · iexact HL
    isplitl [Hx0]; · iexact Hx0
    isplitl [Ha5] <;> iassumption
  iintro ⟨Hx0, Hc5, HO⟩
  iapply (wp_relay m K c 6 0 1 5 1 o2 (show 5 < 7 by decide) (by decide) (by decide) (by decide) _
    (dev13_eq c) _ (off2 c 7 0 (by decide)) _) $$ [Hx1 Ha6 HO]
  · isplitr; · iexact HR
    isplitr; · iexact HL
    isplitl [Hx1]; · iexact Hx1
    isplitl [Ha6] <;> iassumption
  iintro ⟨Hx1, Hc6, HO⟩
  unfold sendPay
  iapply (wp_block m c 7 0 6 1 z2 (show 6 < 7 by decide) _) $$ [Hx0 Hy HO]
  · isplitl [Hx0]; · iexact Hx0
    isplitl [Hy]; · iexact Hy
    isplitl [HO]; · iexact HO
    iexact HL
  iintro ⟨Hx0, Hh, HO⟩
  iapply Hk
  isplitl [HO]; · iexact HO
  isplitl [Hc4]; · iexact Hc4
  isplitl [Hc5]; · iexact Hc5
  isplitl [Hc6]; · iexact Hc6
  isplitl [Hx0]; · iexact Hx0
  isplitl [Hx1]; · iexact Hx1
  iexact Hh

set_option maxHeartbeats 1000000 in
/-- The last block sent, the device's own taken in, and the first two products. -/
theorem wp_first2 (v2 : BitVec 32) {kk : BitVec 32 → Prog (TpuEff nD τ sig (Elt F) Λ₀ .tc) PUnit} :
    iprop(records m K ∗ owe c (Osend c 1) ∗ heldS m c 7 6 (by decide) ∗ barPay c 7 ∗ ship c 7 ∗ flyX m c 0 1 o2
        ∗ (∃ v : S1024x1024.Idx → Elt F .bf16, ownsTc c (xgS 0 (by decide)) fullShare v) ∗ flyW m c 0 0 0 z2 ∗ flyW m c 0 1 1 o2 ∗ freeW c 0 z2 ∗ freeW c 1 o2 ∗ (∃ o, sofar c o))
      ⊢ iprop((∀ r, (owe c 0 ∗ out c 7 ∗ idleX m c 1 o2 ∗ recvPay m c 0 ∗ flyW m c 0 2 0 z2 ∗ flyW m c 0 3 1 o2 ∗ freeW c 0 z2 ∗ freeW c 1 o2 ∗ sofar c (acc m c 1)) -∗ wp frame (wpE (defs₀ (F := F)) 𝒱₀ (c : Thread nD τ) none) Set.univ (kk r) Q)
          -∗ wp frame (wpE (defs₀ (F := F)) 𝒱₀ (c : Thread nD τ) none) Set.univ
              (k0_part20 (F := F) xM h0 wM h1 oM h2 xgM h3 xsM h4 stM h5 wfM h6 wbM h7 cc0_scratch5 cc0_scratch6 cc0_scratch7 cc0_scratch8 c v2 >>= fun v303 =>
                k0_part21 (F := F) xM h0 wM h1 oM h2 xgM h3 xsM h4 stM h5 wfM h6 wbM h7 cc0_scratch5 cc0_scratch6 cc0_scratch7 cc0_scratch8 c v2 v303 >>= fun _ =>
                k0_part22 (F := F) xM h0 wM h1 oM h2 xgM h3 xsM h4 stM h5 wfM h6 wbM h7 cc0_scratch5 cc0_scratch6 cc0_scratch7 cc0_scratch8 c v2 >>= kk) Q) := by
  simp only [k0_part20_eq_skeleton, k0_part21_eq_skeleton, k0_part22_eq_skeleton]
  unfold k0_part20_skel k0_part21_skel k0_part22_skel
  simp only [Prog.lift, Prog.bind_op, Prog.bind_ret, Prog.pure_eq_ret, Prog.bind_assoc, pay19, pay20, pay21, pay22, pay23, pay24, pay25, pay26, pay28, pay29, pay30, pay32_31, pay33,
    pay34, pay35, pay36, pay38_37, pay39, pay40, pay41]
  iintro ⟨#HR, HO, Hh, Hq, Hs, Hx1, Hg, Hw0, Hw1, Hb0, Hb1, Ho⟩ Hk
  unfold heldS ship
  icases Hs with ⟨HT, HT'⟩
  iapply (wp_ship m K c 7 0 (by decide) (by decide) _ (dev14_eq c) 6 (show 6 < 7 by decide) (by decide)) $$ [Hh Hq HO HT HT']
  · isplitr; · iexact HR
    isplitl [Hh]; · iexact Hh
    isplitl [Hq]; · iexact Hq
    isplitl [HO]; · iexact HO
    isplitl [HT] <;> iassumption
  iintro ⟨Hc7, HO⟩
  iapply (wp_own m c _ 1 o2) $$ [Hx1 Hg HO]
  · isplitl [Hx1]; · iexact Hx1
    isplitl [Hg]; · iexact Hg
    iexact HO
  iintro ⟨Hx1, Hx, HO⟩
  iapply (wp_chunk m c 0 0 0 z2 _) $$ [Hw0 Hb0 HO]
  · isplitl [Hw0]; · iexact Hw0
    isplitl [Hb0] <;> iassumption
  iintro ⟨Hw0, Hb0, HO⟩
  iapply (wp_fetchW m c 0 2 0 z2 _ (off1 c 2)) $$ Hw0
  iintro Hw0
  iapply (wp_term0 m c _ rfl) $$ [Hx Hb0 Ho]
  · isplitl [Hx]; · iexact Hx
    isplitl [Hb0] <;> iassumption
  iintro ⟨Hx, Hb0, Ho⟩
  iapply (wp_work m c 0 0 1 1 0 0 3 o2 rfl (by decide) (by decide) _ rfl _ (off1 c 3) _) $$ [Hw1 Hb1 HO Hx Ho]
  · isplitl [Hw1]; · iexact Hw1
    isplitl [Hb1]; · iexact Hb1
    isplitl [HO]; · iexact HO
    isplitl [Hx] <;> iassumption
  iintro ⟨Hw1, Hb1, HO, Hx, Ho⟩
  unfold out
  iapply Hk
  isplitl [HO]; · iexact HO
  isplitl [Hc7]; · iexact Hc7
  isplitl [Hx1]; · iexact Hx1
  isplitl [Hx]; · iexact Hx
  isplitl [Hw0]; · iexact Hw0
  isplitl [Hw1]; · iexact Hw1
  isplitl [Hb0]; · iexact Hb0
  isplitl [Hb1]; · iexact Hb1
  iexact Ho

set_option maxHeartbeats 1000000 in
/-- Two more products, and the chunk for the next. -/
theorem wp_next2 (v2 v358 : BitVec 32) {kk : PUnit → Prog (TpuEff nD τ sig (Elt F) Λ₀ .tc) PUnit} :
    iprop(owe c 0 ∗ recvPay m c 0 ∗ flyW m c 0 2 0 z2 ∗ flyW m c 0 3 1 o2 ∗ freeW c 0 z2 ∗ freeW c 1 o2 ∗ sofar c (acc m c 1))
      ⊢ iprop((∀ r, (owe c 0 ∗ recvPay m c 0 ∗ idleW m c 0 z2 ∗ flyW m c 0 5 1 o2 ∗ heldW m c 0 4 0 z2 ∗ freeW c 1 o2 ∗ sofar c (acc m c 3)) -∗ wp frame (wpE (defs₀ (F := F)) 𝒱₀ (c : Thread nD τ) none) Set.univ (kk r) Q)
          -∗ wp frame (wpE (defs₀ (F := F)) 𝒱₀ (c : Thread nD τ) none) Set.univ
              (k0_part23 (F := F) xM h0 wM h1 oM h2 xgM h3 xsM h4 stM h5 wfM h6 wbM h7 cc0_scratch5 cc0_scratch6 cc0_scratch7 cc0_scratch8 c v2 v358 >>= fun v385 =>
                k0_part24 (F := F) xM h0 wM h1 oM h2 xgM h3 xsM h4 stM h5 wfM h6 wbM h7 cc0_scratch5 cc0_scratch6 cc0_scratch7 cc0_scratch8 c v2 v385 >>= fun _ =>
                k0_part25 (F := F) xM h0 wM h1 oM h2 xgM h3 xsM h4 stM h5 wfM h6 wbM h7 cc0_scratch5 cc0_scratch6 cc0_scratch7 cc0_scratch8 c v2 >>= kk) Q) := by
  simp only [k0_part23_eq_skeleton, k0_part24_eq_skeleton, k0_part25_eq_skeleton]
  unfold k0_part23_skel k0_part24_skel k0_part25_skel
  simp only [Prog.lift, Prog.bind_op, Prog.bind_ret, Prog.pure_eq_ret, Prog.bind_assoc, pay19, pay20, pay21, pay22, pay23, pay24, pay25, pay26, pay28, pay29, pay30, pay32_31, pay33,
    pay34, pay35, pay36, pay38_37, pay39, pay40, pay41]
  iintro ⟨HO, Hx, Hw0, Hw1, Hb0, Hb1, Ho⟩ Hk
  iapply (wp_work m c 0 0 2 0 1 0 4 z2 rfl (by decide) (by decide) _ rfl _ (off1 c 4) _) $$ [Hw0 Hb0 HO Hx Ho]
  · isplitl [Hw0]; · iexact Hw0
    isplitl [Hb0]; · iexact Hb0
    isplitl [HO]; · iexact HO
    isplitl [Hx] <;> iassumption
  iintro ⟨Hw0, Hb0, HO, Hx, Ho⟩
  iapply (wp_work m c 0 0 3 1 2 0 5 o2 rfl (by decide) (by decide) _ rfl _ (off1 c 5) _) $$ [Hw1 Hb1 HO Hx Ho]
  · isplitl [Hw1]; · iexact Hw1
    isplitl [Hb1]; · iexact Hb1
    isplitl [HO]; · iexact HO
    isplitl [Hx] <;> iassumption
  iintro ⟨Hw1, Hb1, HO, Hx, Ho⟩
  iapply (wp_chunk m c 0 4 0 z2 _) $$ [Hw0 Hb0 HO]
  · isplitl [Hw0]; · iexact Hw0
    isplitl [Hb0] <;> iassumption
  iintro ⟨Hw0, Hb0, HO⟩
  iapply Hk
  isplitl [HO]; · iexact HO
  isplitl [Hx]; · iexact Hx
  isplitl [Hw0]; · iexact Hw0
  isplitl [Hw1]; · iexact Hw1
  isplitl [Hb0]; · iexact Hb0
  isplitl [Hb1]; · iexact Hb1
  iexact Ho

set_option maxHeartbeats 1000000 in
/-- Three more products. -/
theorem wp_next3 (v2 : BitVec 32) {kk : BitVec 32 → Prog (TpuEff nD τ sig (Elt F) Λ₀ .tc) PUnit} :
    iprop(owe c 0 ∗ recvPay m c 0 ∗ idleW m c 0 z2 ∗ flyW m c 0 5 1 o2 ∗ heldW m c 0 4 0 z2 ∗ freeW c 1 o2 ∗ sofar c (acc m c 3))
      ⊢ iprop((∀ r, (owe c 0 ∗ recvPay m c 0 ∗ flyW m c 1 0 0 z2 ∗ flyW m c 0 7 1 o2 ∗ freeW c 0 z2 ∗ freeW c 1 o2 ∗ sofar c (acc m c 6)) -∗ wp frame (wpE (defs₀ (F := F)) 𝒱₀ (c : Thread nD τ) none) Set.univ (kk r) Q)
          -∗ wp frame (wpE (defs₀ (F := F)) 𝒱₀ (c : Thread nD τ) none) Set.univ
              (k0_part26 (F := F) xM h0 wM h1 oM h2 xgM h3 xsM h4 stM h5 wfM h6 wbM h7 cc0_scratch5 cc0_scratch6 cc0_scratch7 cc0_scratch8 c v2 >>= fun v467 =>
                k0_part27 (F := F) xM h0 wM h1 oM h2 xgM h3 xsM h4 stM h5 wfM h6 wbM h7 cc0_scratch5 cc0_scratch6 cc0_scratch7 cc0_scratch8 c v2 v467 >>= fun _ =>
                k0_part28 (F := F) xM h0 wM h1 oM h2 xgM h3 xsM h4 stM h5 wfM h6 wbM h7 cc0_scratch5 cc0_scratch6 cc0_scratch7 cc0_scratch8 c v2 >>= kk) Q) := by
  simp only [k0_part26_eq_skeleton, k0_part27_eq_skeleton, k0_part28_eq_skeleton]
  unfold k0_part26_skel k0_part27_skel k0_part28_skel
  simp only [Prog.lift, Prog.bind_op, Prog.bind_ret, Prog.pure_eq_ret, Prog.bind_assoc, pay19, pay20, pay21, pay22, pay23, pay24, pay25, pay26, pay28, pay29, pay30, pay32_31, pay33,
    pay34, pay35, pay36, pay38_37, pay39, pay40, pay41]
  iintro ⟨HO, Hx, Hw0, Hw1, Hb0, Hb1, Ho⟩ Hk
  iapply (wp_fetchW m c 0 6 0 z2 _ (off1 c 6)) $$ Hw0
  iintro Hw0
  iapply (wp_term m c 0 0 4 0 3 z2 rfl (by decide) (by decide) _ rfl) $$ [Hx Hb0 Ho]
  · isplitl [Hx]; · iexact Hx
    isplitl [Hb0] <;> iassumption
  iintro ⟨Hx, Hb0, Ho⟩
  iapply (wp_work m c 0 0 5 1 4 0 7 o2 rfl (by decide) (by decide) _ rfl _ (off1 c 7) _) $$ [Hw1 Hb1 HO Hx Ho]
  · isplitl [Hw1]; · iexact Hw1
    isplitl [Hb1]; · iexact Hb1
    isplitl [HO]; · iexact HO
    isplitl [Hx] <;> iassumption
  iintro ⟨Hw1, Hb1, HO, Hx, Ho⟩
  iapply (wp_work m c 0 0 6 0 5 1 0 z2 rfl (by decide) (by decide) _ rfl _ (off1' c 0) _) $$ [Hw0 Hb0 HO Hx Ho]
  · isplitl [Hw0]; · iexact Hw0
    isplitl [Hb0]; · iexact Hb0
    isplitl [HO]; · iexact HO
    isplitl [Hx] <;> iassumption
  iintro ⟨Hw0, Hb0, HO, Hx, Ho⟩
  iapply Hk
  isplitl [HO]; · iexact HO
  isplitl [Hx]; · iexact Hx
  isplitl [Hw0]; · iexact Hw0
  isplitl [Hw1]; · iexact Hw1
  isplitl [Hb0]; · iexact Hb0
  isplitl [Hb1]; · iexact Hb1
  iexact Ho

end Stretches

end Cert.KernelIdeal.Exchange
-- ==== Proof.Body.lean ====
/-
The whole body on one device: the seven announcements, the fetches and sends, the products with the device's own block,
the loop over the other blocks, and the wait for the sends.
-/
module

public import proofs.«01_k».proof.Proof.Stretches

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ)

/-- One resource for each of the seven distances to another device. -/
def seven (Φ : Fin 8 → sProp 𝕄) : sProp 𝕄 := iprop(Φ 1 ∗ Φ 2 ∗ Φ 3 ∗ Φ 4 ∗ Φ 5 ∗ Φ 6 ∗ Φ 7)

/-- One resource for each distance: that at distance zero, and the seven others. -/
theorem bigSep_eight (Φ : Fin 8 → sProp 𝕄) : bigSep Finset.univ Φ = iprop(Φ 0 ∗ seven Φ) :=
  bigSep_univ_eq_bigSepL [0, 1, 2, 3, 4, 5, 6, 7] (by decide) (by decide) Φ

/-- The place in the rounds of the sending cell. -/
def sendAt (c : Dev nD) (k : Fin 8) : sProp 𝕄 := atPos ER (sendCell c k) 0 ∅ 0
/-- A send that is over. -/
def sent (c : Dev nD) (k : Fin 8) : sProp 𝕄 := iprop(semVal (sendCell c k) 0 ∗ sendPay c k)

/-- What a device has before the body. -/
def before (c : Dev nD) : sProp 𝕄 :=
  iprop(records m K ∗ levAts L lv ∗ owe c (Osig c 7) ∗ cred (tallyAt (barCell c) () 7) ∗ atPos ER (barCell c) 0 ∅ 0
    ∗ seven (ping c) ∗ seven (ship c) ∗ seven (sendPay c) ∗ seven (due c) ∗ seven (sendAt c)
    ∗ atPos ER (sendCell c 0) 0 ∅ 0 ∗ atPos ER (recvCell c 0) 0 ∅ 0 ∗ (∃ v, ownsTc c (xgS 0 (by decide)) fullShare v)
    ∗ idleX m c 0 z2 ∗ idleX m c 1 o2 ∗ idleW m c 0 z2 ∗ idleW m c 1 o2 ∗ freeW c 0 z2 ∗ freeW c 1 o2 ∗ (∃ o, sofar c o))

/-- What it has after. -/
def after (c : Dev nD) : sProp 𝕄 :=
  iprop(sofar c (acc m c 63) ∗ owe c 0 ∗ semVal (barCell c) 0 ∗ semVal (sendCell c 0) 0 ∗ bigSep Finset.univ (got m c) ∗ seven (sent c)
    ∗ idleX m c 0 z2 ∗ idleX m c 1 o2 ∗ idleW m c 0 z2 ∗ idleW m c 1 o2 ∗ freeW c 0 z2 ∗ freeW c 1 o2)

/-- The cells that nothing passes through are done with from the start. -/
theorem close_recv (c : Dev nD) : iprop(records m K ∗ atPos ER (recvCell c 0) 0 ∅ 0) ⊢ iprop(|={Set.univ,Set.univ}=> semVal (recvCell c 0) 0) := by
  iintro ⟨#HR, HA⟩
  iapply (Rounds.cell_close ER (rd m) (Set.mem_univ (K (c, some (true, 0)))) (fun h => h) (R := 0) (duties_recv_zero m c))
  isplitr; · iapply (inv_at m K (c, some (true, 0))); iexact HR
  iexact HA
/-- The send cell at distance zero is done with from the start: its counter stands at zero. -/
theorem close_send (c : Dev nD) : iprop(records m K ∗ atPos ER (sendCell c 0) 0 ∅ 0) ⊢ iprop(|={Set.univ,Set.univ}=> semVal (sendCell c 0) 0) := by
  iintro ⟨#HR, HA⟩
  iapply (Rounds.cell_close ER (rd m) (Set.mem_univ (K (c, some (false, 0)))) (fun h => h) (R := 0) (duties_send_zero m c))
  isplitr; · iapply (inv_at m K (c, some (false, 0))); iexact HR
  iexact HA

/-- Before the loop only the device's own block is in. -/
theorem blocks_start (c : Dev nD) : iprop(got m c 0 ∗ seven (due c)) ⊢ bigSep Finset.univ (block m c 0) := by
  rw [bigSep_eight]
  exact .rfl
/-- After it every block is. -/
theorem blocks_end (c : Dev nD) : bigSep Finset.univ (block m c 7) ⊢ bigSep Finset.univ (got m c) :=
  bigSep_mono fun k _ => Entails.of_eq (show (if k.val ≤ 7 then got m c k else due c k) = got m c k from if_pos (Nat.le_of_lt_succ k.isLt))

/-- Before the first trip the copies of step 1 are under way. -/
theorem ahead_first (c : Dev nD) (i : Nat) (h : i < 2) : flyW m c 1 i i h ⊢ ahead m c (0 + 1) i h :=
  Entails.of_eq (show flyW m c 1 i i h = (if 0 + 1 ≤ 7 then flyW m c (0 + 1) i i h else idleW m c i h) from (if_pos (by decide)).symm)
/-- After the last trip no copy of a chunk is. -/
theorem ahead_last (c : Dev nD) (i : Nat) (h : i < 2) : ahead m c (7 + 1) i h ⊢ idleW m c i h :=
  Entails.of_eq (show (if 7 + 1 ≤ 7 then flyW m c (7 + 1) i i h else idleW m c i h) = idleW m c i h from if_neg (by decide))

section Body
variable (c : Dev nD) (h0 : xM.IsWhole) (h1 : wM.IsWhole) (h2 : oM.IsWhole) (h3 : xgM.IsWhole) (h4 : xsM.IsWhole) (h5 : stM.IsWhole)
  (h6 : wfM.IsWhole) (h7 : wbM.IsWhole)

/-- The loop does not look at the product it is handed. -/
theorem loop_dead (v2 : BitVec 32) (x : Vec F S1x1024x128 .bf16) (y : Vec F S1x128x4096 .bf16) :
    k0_t1_body (F := F) xM h0 wM h1 oM h2 xgM h3 xsM h4 stM h5 wfM h6 wbM h7 cc0_scratch5 cc0_scratch6 cc0_scratch7 cc0_scratch8 c v2 (k0_pay43 x y)
      = k0_t1_body (F := F) xM h0 wM h1 oM h2 xgM h3 xsM h4 stM h5 wfM h6 wbM h7 cc0_scratch5 cc0_scratch6 cc0_scratch7 cc0_scratch8 c v2
          (constant S1024x4096 .f32 0x00000000#32) := rfl

set_option maxHeartbeats 2000000 in
/-- The body. -/
theorem wp_body :
    before m K c ⊢ wp frame (wpE (defs₀ (F := F)) 𝒱₀ (c : Thread nD τ) none) Set.univ
      (cc0_body (F := F) xM h0 wM h1 oM h2 xgM h3 xsM h4 stM h5 wfM h6 wbM h7 cc0_scratch5 cc0_scratch6 cc0_scratch7 cc0_scratch8)
      (fun _ => after m c) := by
  simp only [cc0_body_eq_skeleton]; unfold cc0_body_skel
  simp only [k0_part10_eq_skeleton, k0_part11_eq_skeleton, k0_part29_eq_skeleton, k0_part30_eq_skeleton, k0_part31_eq_skeleton]
  unfold k0_part10_skel k0_part11_skel k0_part29_skel k0_part30_skel k0_part31_skel
  simp only [semSignalWord, semWaitWord, Prog.lift, Prog.bind_op, Prog.bind_ret, Prog.pure_eq_ret, Prog.bind_assoc, wp_deviceId, pay42, pay44_43, loop_dead]
  unfold before
  iintro ⟨#HR, #HL, HO, HC, HA, Hp, Hs, Hy, Hd, Ht, HA0, HB0, Hg, Hx0, Hx1, Hw0, Hw1, Hb0, Hb1, Ho⟩
  imod (close_recv m K c) $$ [HB0] with Hr0
  · isplitr; · iexact HR
    iexact HB0
  imod (close_send m K c) $$ [HA0] with Hs0
  · isplitr; · iexact HR
    iexact HA0
  unfold seven
  icases Hp with ⟨Hp1, Hp2, Hp3, Hp4, Hp5, Hp6, Hp7⟩
  unfold ping
  icases Hp1 with ⟨HT, Hp1⟩
  iapply (wp_ping m K c 1 6 (by decide) (by decide) _ (dev1_eq c) (back 1).val (back 1).isLt rfl) $$ [HO HT Hp1]
  · isplitr; · iexact HR
    isplitl [HO]; · iexact HO
    isplitl [HT] <;> iassumption
  iintro HO
  icases Hp2 with ⟨HT, Hp2⟩
  iapply (wp_ping m K c 2 5 (by decide) (by decide) _ (dev2_eq c) (back 2).val (back 2).isLt rfl) $$ [HO HT Hp2]
  · isplitr; · iexact HR
    isplitl [HO]; · iexact HO
    isplitl [HT] <;> iassumption
  iintro HO
  icases Hp3 with ⟨HT, Hp3⟩
  iapply (wp_ping m K c 3 4 (by decide) (by decide) _ (dev3_eq c) (back 3).val (back 3).isLt rfl) $$ [HO HT Hp3]
  · isplitr; · iexact HR
    isplitl [HO]; · iexact HO
    isplitl [HT] <;> iassumption
  iintro HO
  icases Hp4 with ⟨HT, Hp4⟩
  iapply (wp_ping m K c 4 3 (by decide) (by decide) _ (dev4_eq c) (back 4).val (back 4).isLt rfl) $$ [HO HT Hp4]
  · isplitr; · iexact HR
    isplitl [HO]; · iexact HO
    isplitl [HT] <;> iassumption
  iintro HO
  icases Hp5 with ⟨HT, Hp5⟩
  iapply (wp_ping m K c 5 2 (by decide) (by decide) _ (dev5_eq c) (back 5).val (back 5).isLt rfl) $$ [HO HT Hp5]
  · isplitr; · iexact HR
    isplitl [HO]; · iexact HO
    isplitl [HT] <;> iassumption
  iintro HO
  icases Hp6 with ⟨HT, Hp6⟩
  iapply (wp_ping m K c 6 1 (by decide) (by decide) _ (dev6_eq c) (back 6).val (back 6).isLt rfl) $$ [HO HT Hp6]
  · isplitr; · iexact HR
    isplitl [HO]; · iexact HO
    isplitl [HT] <;> iassumption
  iintro HO
  icases Hp7 with ⟨HT, Hp7⟩
  iapply (wp_ping m K c 7 0 (by decide) (by decide) _ (dev7_eq c) (back 7).val (back 7).isLt rfl) $$ [HO HT Hp7]
  · isplitr; · iexact HR
    isplitl [HO]; · iexact HO
    isplitl [HT] <;> iassumption
  iintro HO
  iapply (wp_gather m K c) $$ [HC HO HA]
  · isplitr; · iexact HR
    isplitl [HC]; · iexact HC
    isplitl [HO]; · iexact HO
    isplitr; · iexact HL
    iexact HA
  iintro ⟨HO, Hbar, Hq1, Hq2, Hq3, Hq4, Hq5, Hq6, Hq7⟩
  icases Hs with ⟨Hs1, Hs2, Hs3, Hs4, Hs5, Hs6, Hs7⟩
  icases Hy with ⟨Hy1, Hy2, Hy3, Hy4, Hy5, Hy6, Hy7⟩
  iapply (wp_fetchW m c 0 0 0 z2 _ (off1 c 0)) $$ Hw0
  iintro Hw0
  iapply (wp_fetchW m c 0 1 1 o2 _ (off1 c 1)) $$ Hw1
  iintro Hw1
  iapply (wp_blocks1 m K c h0 h1 h2 h3 h4 h5 h6 h7 _ _) $$ [HO Hy1 Hq1 Hs1 Hy2 Hq2 Hs2 Hy3 Hq3 Hs3 Hx0 Hx1]
  · isplitr; · iexact HR
    isplitr; · iexact HL
    isplitl [HO]; · iexact HO
    isplitl [Hy1 Hq1 Hs1]
    · unfold able
      isplitl [Hy1]; · iexact Hy1
      isplitl [Hq1] <;> iassumption
    isplitl [Hy2 Hq2 Hs2]
    · unfold able
      isplitl [Hy2]; · iexact Hy2
      isplitl [Hq2] <;> iassumption
    isplitl [Hy3 Hq3 Hs3]
    · unfold able
      isplitl [Hy3]; · iexact Hy3
      isplitl [Hq3] <;> iassumption
    isplitl [Hx0] <;> iassumption
  iintro %_ ⟨HO, Hc1, Hc2, Hc3, Hx0, Hx1⟩
  iapply (wp_blocks2 m K c h0 h1 h2 h3 h4 h5 h6 h7 _ _) $$ [HO Hy4 Hq4 Hs4 Hy5 Hq5 Hs5 Hy6 Hq6 Hs6 Hy7 Hx0 Hx1]
  · isplitr; · iexact HR
    isplitr; · iexact HL
    isplitl [HO]; · iexact HO
    isplitl [Hy4 Hq4 Hs4]
    · unfold able
      isplitl [Hy4]; · iexact Hy4
      isplitl [Hq4] <;> iassumption
    isplitl [Hy5 Hq5 Hs5]
    · unfold able
      isplitl [Hy5]; · iexact Hy5
      isplitl [Hq5] <;> iassumption
    isplitl [Hy6 Hq6 Hs6]
    · unfold able
      isplitl [Hy6]; · iexact Hy6
      isplitl [Hq6] <;> iassumption
    isplitl [Hy7]; · iexact Hy7
    isplitl [Hx0] <;> iassumption
  iintro %_ ⟨HO, Hc4, Hc5, Hc6, Hx0, Hx1, Hh⟩
  iapply (wp_first2 m K c h0 h1 h2 h3 h4 h5 h6 h7 _) $$ [HO Hh Hq7 Hs7 Hx1 Hg Hw0 Hw1 Hb0 Hb1 Ho]
  · isplitr; · iexact HR
    isplitl [HO]; · iexact HO
    isplitl [Hh]; · iexact Hh
    isplitl [Hq7]; · iexact Hq7
    isplitl [Hs7]; · iexact Hs7
    isplitl [Hx1]; · iexact Hx1
    isplitl [Hg]; · iexact Hg
    isplitl [Hw0]; · iexact Hw0
    isplitl [Hw1]; · iexact Hw1
    isplitl [Hb0]; · iexact Hb0
    isplitl [Hb1] <;> iassumption
  iintro %_ ⟨HO, Hc7, Hx1, Hx, Hw⟩
  iapply (wp_next2 m c h0 h1 h2 h3 h4 h5 h6 h7 _ _) $$ [HO Hx Hw]
  · isplitl [HO]; · iexact HO
    isplitl [Hx] <;> iassumption
  iintro %_ Hw
  iapply (wp_next3 m c h0 h1 h2 h3 h4 h5 h6 h7 _) $$ Hw
  iintro %_ ⟨HO, Hx, Hw0, Hw1, Hb0, Hb1, Ho⟩
  iapply (wp_work m c 0 0 7 1 6 1 1 o2 rfl (by decide) (by decide) _ rfl _ (off1' c 1) _) $$ [Hw1 Hb1 HO Hx Ho]
  · isplitl [Hw1]; · iexact Hw1
    isplitl [Hb1]; · iexact Hb1
    isplitl [HO]; · iexact HO
    isplitl [Hx] <;> iassumption
  iintro ⟨Hw1, Hb1, HO, Hx, Ho⟩
  ihave HB := (blocks_start m c) $$ [Hx Hr0 Hd]
  · unfold got
    isplitl [Hx Hr0]; · isplitl [Hx] <;> iassumption
    unfold seven
    iexact Hd
  iapply (wp_loop m K c h0 h1 h2 h3 h4 h5 h6 h7 _ _) $$ [HB Ho Hw0 Hw1 Hb0 Hb1 HO]
  · unfold Inv
    isplitr; · iexact HR
    isplitl [HB]; · iexact HB
    isplitl [Ho]; · iexact Ho
    isplitl [Hw0]; · iapply (ahead_first m c 0 z2); iexact Hw0
    isplitl [Hw1]; · iapply (ahead_first m c 1 o2); iexact Hw1
    isplitl [Hb0]; · iexact Hb0
    isplitl [Hb1] <;> iassumption
  unfold Inv
  iintro ⟨-, HB, Ho, Hw0, Hw1, Hb0, Hb1, HO⟩
  unfold sendAt out
  icases Ht with ⟨Ht1, Ht2, Ht3, Ht4, Ht5, Ht6, Ht7⟩
  iapply (wp_left m K c 1 (by decide) _ rfl _ (xsS 0 (show 0 < 7 by decide)) rfl) $$ [Hc1 HO Ht1]
  · isplitr; · iexact HR
    isplitl [Hc1]; · iexact Hc1
    isplitl [HO] <;> iassumption
  iintro ⟨HO, He1⟩
  iapply (wp_left m K c 2 (by decide) _ rfl _ (xsS 1 (show 1 < 7 by decide)) rfl) $$ [Hc2 HO Ht2]
  · isplitr; · iexact HR
    isplitl [Hc2]; · iexact Hc2
    isplitl [HO] <;> iassumption
  iintro ⟨HO, He2⟩
  iapply (wp_left m K c 3 (by decide) _ rfl _ (xsS 2 (show 2 < 7 by decide)) rfl) $$ [Hc3 HO Ht3]
  · isplitr; · iexact HR
    isplitl [Hc3]; · iexact Hc3
    isplitl [HO] <;> iassumption
  iintro ⟨HO, He3⟩
  iapply (wp_left m K c 4 (by decide) _ rfl _ (xsS 3 (show 3 < 7 by decide)) rfl) $$ [Hc4 HO Ht4]
  · isplitr; · iexact HR
    isplitl [Hc4]; · iexact Hc4
    isplitl [HO] <;> iassumption
  iintro ⟨HO, He4⟩
  iapply (wp_left m K c 5 (by decide) _ rfl _ (xsS 4 (show 4 < 7 by decide)) rfl) $$ [Hc5 HO Ht5]
  · isplitr; · iexact HR
    isplitl [Hc5]; · iexact Hc5
    isplitl [HO] <;> iassumption
  iintro ⟨HO, He5⟩
  iapply (wp_left m K c 6 (by decide) _ rfl _ (xsS 5 (show 5 < 7 by decide)) rfl) $$ [Hc6 HO Ht6]
  · isplitr; · iexact HR
    isplitl [Hc6]; · iexact Hc6
    isplitl [HO] <;> iassumption
  iintro ⟨HO, He6⟩
  iapply (wp_left m K c 7 (by decide) _ rfl _ (xsS 6 (show 6 < 7 by decide)) rfl) $$ [Hc7 HO Ht7]
  · isplitr; · iexact HR
    isplitl [Hc7]; · iexact Hc7
    isplitl [HO] <;> iassumption
  iintro ⟨HO, He7⟩
  rw [wp_ret]
  imodintro
  unfold after seven sent
  isplitl [Ho]; · iexact Ho
  isplitl [HO]; · iexact HO
  isplitl [Hbar]; · iexact Hbar
  isplitl [Hs0]; · iexact Hs0
  isplitl [HB]; · iapply (blocks_end m c); iexact HB
  isplitl [He1 He2 He3 He4 He5 He6 He7]
  · isplitl [He1]; · iexact He1
    isplitl [He2]; · iexact He2
    isplitl [He3]; · iexact He3
    isplitl [He4]; · iexact He4
    isplitl [He5]; · iexact He5
    isplitl [He6]; · iexact He6
    iexact He7
  isplitl [Hx0]; · iexact Hx0
  isplitl [Hx1]; · iexact Hx1
  isplitl [Hw0]; · iapply (ahead_last m c 0 z2); iexact Hw0
  isplitl [Hw1]; · iapply (ahead_last m c 1 o2); iexact Hw1
  isplitl [Hb0]; · iexact Hb0
  iexact Hb1

end Body

end Cert.KernelIdeal.Exchange
-- ==== Proof.Stacks.lean ====
/-
A stack of two-axis arrays, owned whole, is its slots owned one by one; and back.
-/
module

public import proofs.«01_k».proof.Proof.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- The box of slot `i` of a stack of `n`. -/
abbrev layer {n a b : Nat} (i : Fin n) : Rect ⟨3, ![n, a, b]⟩ :=
  Rect.unit (s := ⟨3, ![n, a, b]⟩) ![i.val, 0, 0] (⟨3, ![1, a, b]⟩ : Shape).size (slot_inb i.isLt)

section Layer
variable {n a b : Nat}

/-- An index lies in the slot its first coordinate names. -/
theorem mem_layer (i : Fin n) (z : (⟨3, ![n, a, b]⟩ : Shape).Idx) : z ∈ (layer i).set ↔ (z 0).val = i.val := by
  rw [Rect.mem_set_unit]
  constructor
  · intro h
    have h0 : i.val ≤ (z 0).val ∧ (z 0).val < i.val + 1 := h 0
    omega
  · intro h x
    fin_cases x
    · exact (show i.val ≤ (z 0).val ∧ (z 0).val < i.val + 1 by omega)
    · exact ⟨Nat.zero_le _, (show (z 1).val < 0 + a by have : (z 1).val < a := (z 1).isLt; omega)⟩
    · exact ⟨Nat.zero_le _, (show (z 2).val < 0 + b by have : (z 2).val < b := (z 2).isLt; omega)⟩

/-- Different layers have no index in common, -/
theorem layers_disjoint (i j : Fin n) (h : i ≠ j) : Disjoint (layer (a := a) (b := b) i).set (layer j).set :=
  Finset.disjoint_left.mpr fun z hi hj => h (Fin.ext (((mem_layer i z).mp hi).symm.trans ((mem_layer j z).mp hj)))

/-- and together they have every index. -/
theorem layers_cover : (Finset.univ : Finset (Fin n)).biUnion (fun i => (layer (a := a) (b := b) i).set) = Finset.univ :=
  Finset.eq_univ_of_forall fun z => Finset.mem_biUnion.mpr ⟨⟨(z 0).val, (z 0).isLt⟩, Finset.mem_univ _, (mem_layer _ z).mpr rfl⟩

/-- An index of a layer, taken as one of the stack, lies in that layer. -/
theorem emb_mem (i : Fin n) (j : (layer (a := a) (b := b) i).shape.Idx) : (layer i).emb j ∈ (layer (a := a) (b := b) i).set := by
  rw [← Rect.map_emb_univ]; exact Finset.mem_map_of_mem _ (Finset.mem_univ j)

/-- Arrays given slot by slot are the parts of one stack. -/
theorem layers_glue {α : Type} [Nonempty α] (x : (i : Fin n) → (layer (a := a) (b := b) i).shape.Idx → α) :
    ∃ X : (⟨3, ![n, a, b]⟩ : Shape).Idx → α, ∀ i j, X ((layer i).emb j) = x i j := by
  classical
  refine ⟨fun z => if h : ∃ i j, (layer i).emb j = z then x h.choose h.choose_spec.choose else Classical.arbitrary α, fun i j => ?_⟩
  have h : ∃ i' j', (layer i').emb j' = (layer i).emb j := ⟨i, j, rfl⟩
  have key : ∀ (i' : Fin n) (j' : (layer (a := a) (b := b) i').shape.Idx), (layer i').emb j' = (layer i).emb j → x i' j' = x i j := by
    intro i' j' e
    have hi : i' = i := by
      by_contra hne
      refine Finset.disjoint_left.mp (layers_disjoint (a := a) (b := b) i' i hne) (emb_mem i' j') ?_
      rw [e]; exact emb_mem i j
    subst hi
    rw [(layer i').emb.injective e]
  show (if h : ∃ i' j', (layer i').emb j' = (layer i).emb j then x h.choose h.choose_spec.choose else _) = _
  rw [dif_pos h]
  exact key _ _ h.choose_spec.choose_spec

end Layer

section Stack
variable {n a b : Nat} {e : EltTy} (c : Dev nD) (M : Memref sig .tc .vmem ⟨3, ![n, a, b]⟩ e)
  (sq : (⟨3, ![1, a, b]⟩ : Shape).Squeezes ⟨2, ![a, b]⟩)

/-- Some array in slot `i`. -/
def inSlot (i : Fin n) : sProp 𝕄 := iprop(∃ v, ownsTc c (slot M sq ![i.val, 0, 0] (slot_inb i.isLt)) fullShare v)

/-- A stack owned whole gives its slots, -/
theorem stack_split : iprop(∃ X, ownsTc c M fullShare X) ⊢ (bigSep Finset.univ (inSlot c M sq) : sProp 𝕄) := by
  have hs (X : (⟨3, ![n, a, b]⟩ : Shape).Idx → Elt F e) (i : Fin n) :
      (ownsTc c (M.slice (layer i) (fun _ => rfl)) fullShare (fun j => X ((layer i).emb j)) : sProp 𝕄) ⊢ inSlot c M sq i := by
    unfold inSlot ownsTc owns
    iintro ⟨%f, %hf, H⟩
    iexists (slot M sq ![i.val, 0, 0] (slot_inb i.isLt)).view.read (Elt F) f
    iexists f
    isplitr; · ipureintro; rfl
    rw [slot_set]
    iexact H
  have hall (X : (⟨3, ![n, a, b]⟩ : Shape).Idx → Elt F e) : (ownsTc c M fullShare X : sProp 𝕄) ⊢ (bigSep Finset.univ (inSlot c M sq) : sProp 𝕄) :=
    (owns_rects (c : Thread nD τ) M fullShare layer (fun _ _ => rfl) layers_disjoint layers_cover X).trans (bigSep_mono fun i _ => hs X i)
  iintro ⟨%X, H⟩
  iapply (hall X)
  iexact H

/-- and the slots the stack. -/
theorem stack_join : (bigSep Finset.univ (inSlot c M sq) : sProp 𝕄) ⊢ iprop(∃ X, ownsTc c M fullShare X) := by
  have hs (i : Fin n) : (inSlot c M sq i : sProp 𝕄)
      ⊢ iprop(∃ x : (layer (a := a) (b := b) i).shape.Idx → Elt F e, ownsTc c (M.slice (layer i) (fun _ => rfl)) fullShare x) := by
    unfold inSlot ownsTc owns
    iintro ⟨%v, %f, %hf, H⟩
    iexists (M.slice (layer i) (fun _ => rfl)).view.read (Elt F) f
    iexists f
    isplitr; · ipureintro; rfl
    rw [slot_set]
    iexact H
  refine (bigSep_mono fun i _ => hs i).trans ?_
  refine (BI.bigSep_exists_pi Finset.univ (fun (i : Fin n) (x : (layer (a := a) (b := b) i).shape.Idx → Elt F e) =>
    (ownsTc c (M.slice (layer i) (fun _ => rfl)) fullShare x : sProp 𝕄))).trans ?_
  iintro ⟨%x, H⟩
  obtain ⟨X, hX⟩ := layers_glue x
  iexists X
  iapply (owns_of_rects (c : Thread nD τ) M fullShare layer (fun _ _ => rfl) layers_disjoint layers_cover X)
  rw [show x = fun i j => X ((layer i).emb j) from funext fun i => funext fun j => (hX i j).symm]
  iexact H

end Stack

end Cert.KernelIdeal.Exchange
-- ==== Proof.Deal.lean ====
/-
How the launch deals the devices what they meet with: the cells opened, the rights to pay their duties handed to the
devices that will use them, and the credit each device holds on its own cells.
-/
module

public import proofs.«01_k».proof.Proof.Stacks

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The semaphores at launch -/

/-- The kernel's own semaphores: those of the two pairs of local copies, and those of the transfers. -/
abbrev Own : Type := (Bool × Fin 2) ⊕ (Bool × Fin 8)

/-- Where each of them lies. -/
abbrev osem : Own → SemLoc sig
  | .inl (false, i) => .dma (wSem i.val i.isLt)
  | .inl (true, i) => .dma (xSem i.val i.isLt)
  | .inr bk => csem (some bk)

/-- A resource for each truth value is the two of them. -/
theorem bigSep_bool (Φ : Bool → sProp 𝕄) : bigSep Finset.univ Φ = iprop(Φ false ∗ Φ true) :=
  bigSep_univ_eq_bigSepL [false, true] (by decide) (by decide) Φ

/-- The cells one by one. -/
theorem bigSep_cells (Φ : Cell → sProp 𝕄) : bigSep Finset.univ Φ
    = iprop(Φ none ∗ (bigSep Finset.univ fun k => Φ (some (false, k))) ∗ bigSep Finset.univ fun k => Φ (some (true, k))) := by
  have h1 : (bigSep Finset.univ fun u : Unit => Φ none) = Φ none := bigSep_univ_eq_bigSepL [()] (by decide) (by decide) _
  have h2 : (bigSep Finset.univ fun x : Bool × Fin 8 => Φ (some x))
      = iprop((bigSep Finset.univ fun k => Φ (some (false, k))) ∗ bigSep Finset.univ fun k => Φ (some (true, k))) := by
    rw [bigSep_univ_prod, bigSep_bool]
  rw [bigSep_univ_equiv ((Equiv.sumComm Unit (Bool × Fin 8)).trans (Equiv.optionEquivSumPUnit (Bool × Fin 8)).symm) Φ, bigSep_univ_sum]
  exact congrArg₂ (fun P Q : sProp 𝕄 => iprop(P ∗ Q)) h1 h2

/-- The counters of the local copies. -/
def locals (c : Dev nD) : sProp 𝕄 :=
  iprop((semVal ((c : Thread nD τ), .dma (wSem 0 z2)) 0 ∗ semVal ((c : Thread nD τ), .dma (wSem 1 o2)) 0)
    ∗ (semVal ((c : Thread nD τ), .dma (xSem 0 z2)) 0 ∗ semVal ((c : Thread nD τ), .dma (xSem 1 o2)) 0))

/-- The kernel's own counters at zero: the local copies', and the sending and receiving side's of every distance. -/
theorem ownSems0_eq (c : Dev nD) : (Pipeline.ownSems0 (Ix := Unit) (Name := ℕ) (U := UU) (Lvl := ℕ) (Val := Elt F) (τ := τ) osem c : sProp 𝕄)
    = iprop(locals c ∗ (bigSep Finset.univ fun k => semVal (sendCell c k) 0) ∗ bigSep Finset.univ fun k => semVal (recvCell c k) 0) := by
  unfold Pipeline.ownSems0
  rw [bigSep_univ_sum, bigSep_univ_prod, bigSep_univ_prod, bigSep_bool, bigSep_bool, bigSep_univ_two, bigSep_univ_two]
  rfl

/-- The one semaphore beside these is the barrier's. -/
theorem unscopedSems0_eq (c : Dev nD) : (unscopedSems0 c : sProp 𝕄) = semVal (barCell c) 0 := by
  unfold unscopedSems0
  rw [bigSep_eq_bigSepL_of_eq [SemLoc.reg barS] (by decide) (by decide)]
  rfl

/-! ## The rights to pay the duties -/

/-- A cell's rights as they are made: on the barrier one for each distance, on a transfer's cell one. -/
abbrev rightOf : Dev nD × (Fin 3 × Fin 8) → GSem nD τ sig × ℕ × Fin 8
  | (c, (0, k)) => (barCell c, 0, k)
  | (c, (1, k)) => (sendCell c k, 0, 0)
  | (c, (2, k)) => (recvCell c k, 0, 0)

/-- Send semaphores at different distances differ. -/
theorem send_inj {k k' : Fin 8} (h : (SemLoc.dma (sendS k) : SemLoc sig) = .dma (sendS k')) : k = k' := by
  have e := csem_injective (a₁ := some (false, k)) (a₂ := some (false, k')) h
  cases e; rfl
/-- Receive semaphores at different distances differ. -/
theorem recv_inj {k k' : Fin 8} (h : (SemLoc.dma (recvS k) : SemLoc sig) = .dma (recvS k')) : k = k' := by
  have e := csem_injective (a₁ := some (true, k)) (a₂ := some (true, k')) h
  cases e; rfl
/-- No send semaphore is a receive semaphore. -/
theorem send_ne_recv (k k' : Fin 8) : (SemLoc.dma (sendS k) : SemLoc sig) ≠ .dma (recvS k') := fun h => by
  have e := csem_injective (a₁ := some (false, k)) (a₂ := some (true, k')) h
  cases e

/-- No right is made twice. -/
theorem rightOf_injective : Function.Injective rightOf := by
  rintro ⟨c, i, k⟩ ⟨c', i', k'⟩ h
  have h1 : c = c' := by
    have e := congrArg (fun x : GSem nD τ sig × ℕ × Fin 8 => x.1.1.1) h
    fin_cases i <;> fin_cases i' <;> exact e
  subst h1
  have hs := congrArg (fun x : GSem nD τ sig × ℕ × Fin 8 => x.1.2) h
  have hd := congrArg (fun x : GSem nD τ sig × ℕ × Fin 8 => x.2.2) h
  fin_cases i <;> fin_cases i'
  · rw [show k = k' from hd]
  · cases hs
  · cases hs
  · cases hs
  · rw [show k = k' from send_inj hs]
  · exact absurd hs (send_ne_recv k k')
  · cases hs
  · exact absurd hs.symm (send_ne_recv k' k)
  · rw [show k = k' from recv_inj hs]

/-- All cells of all devices. -/
def allCells : Finset (GSem nD τ sig) := Finset.univ.map ⟨kcell, kcell_injective⟩
/-- All rights on them. -/
def allRights : Finset (GSem nD τ sig × ℕ × Fin 8) := Finset.univ.map ⟨rightOf, rightOf_injective⟩

/-- The ghost state at launch. -/
def u₀ : UU :=
  (initOf (Pipeline.cells cfgs cellOf_inj) (Pipeline.launchToks cfgs cellOf_inj), (initOf allCells allRights, 1))

/-- The rights on the device's own cells, -/
def made (c : Dev nD) : sProp 𝕄 :=
  iprop((bigSep Finset.univ fun k : Fin 8 => dutyTok ER (barCell c) 0 k) ∗ (bigSep Finset.univ fun k : Fin 8 => dutyTok ER (sendCell c k) 0 0)
    ∗ bigSep Finset.univ fun k : Fin 8 => dutyTok ER (recvCell c k) 0 0)
/-- and those it uses. -/
def used (c : Dev nD) : sProp 𝕄 :=
  iprop((bigSep Finset.univ fun k : Fin 8 => dutyTok ER (barCell (dst c k)) 0 (back k)) ∗ (bigSep Finset.univ fun k : Fin 8 => dutyTok ER (sendCell c k) 0 0)
    ∗ bigSep Finset.univ fun k : Fin 8 => dutyTok ER (recvCell (dst c k) k) 0 0)

/-- Going `k` places on, over all devices. -/
def hop (k : Fin 8) : Dev nD ≃ Dev nD := ⟨fun c => dst c k, fun c => src c k, src_dst k, dst_src k⟩
/-- Going back by the other way round, over all distances. -/
def backE : Fin 8 ≃ Fin 8 := ⟨back, back, back_back, back_back⟩

/-- What every device has for every distance is what each has for the device that far on. -/
theorem bigSep_hop (Φ : Dev nD → Fin 8 → sProp 𝕄) :
    (bigSep Finset.univ fun c => bigSep Finset.univ fun k => Φ c k) = bigSep Finset.univ fun c => bigSep Finset.univ fun k => Φ (dst c k) k := by
  rw [bigSep_univ_comm, bigSep_univ_comm (fun c k => Φ (dst c k) k)]
  exact bigSep_congr fun k _ => bigSep_univ_equiv (hop k) (fun c => Φ c k)

/-- All the rights as made on their cells are all the rights as the devices that pay use them. -/
theorem rights_move : (bigSep Finset.univ fun c : Dev nD => (made c : sProp 𝕄)) ⊢ bigSep Finset.univ fun c : Dev nD => used c := by
  have hb : (bigSep Finset.univ fun c : Dev nD => bigSep Finset.univ fun k : Fin 8 => (dutyTok ER (barCell c) 0 k : sProp 𝕄))
      = bigSep Finset.univ fun c : Dev nD => bigSep Finset.univ fun k : Fin 8 => dutyTok ER (barCell (dst c k)) 0 (back k) := by
    rw [← bigSep_hop (fun c k => (dutyTok ER (barCell c) 0 (back k) : sProp 𝕄))]
    exact bigSep_congr fun c _ => bigSep_univ_equiv backE (fun k => (dutyTok ER (barCell c) 0 k : sProp 𝕄))
  have hr := bigSep_hop (fun c k => (dutyTok ER (recvCell c k) 0 0 : sProp 𝕄))
  unfold made used
  rw [bigSep_sep', bigSep_sep', bigSep_sep', bigSep_sep', hb, hr]

/-! ## What each device is dealt -/

/-- From the ghost state at launch. -/
def dealt (c : Dev nD) : sProp 𝕄 :=
  iprop((bigSep Finset.univ fun k : Cell => roundState ER (rd m) (kcell (c, k)) 0)
    ∗ (bigSep Finset.univ fun k : Cell => iprop(atPos ER (kcell (c, k)) 0 ∅ 0 ∗ reached ER (kcell (c, k)) 0)) ∗ made c)

/-- The ghost state at launch gives each device its part. -/
theorem deal : BI.own (ER (initOf allCells allRights)) ⊢ (|==> bigSep Finset.univ (dealt m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have h3 (Φ : Fin 3 → sProp 𝕄) : bigSep Finset.univ Φ = iprop(Φ 0 ∗ Φ 1 ∗ Φ 2) := bigSep_univ_eq_bigSepL [0, 1, 2] (by decide) (by decide) Φ
  have hT : bigSep allRights (fun x => (dutyTok ER x.1 x.2.1 x.2.2 : sProp 𝕄)) = bigSep Finset.univ fun c : Dev nD => made c := by
    unfold allRights; rw [bigSep_map, bigSep_univ_prod]
    exact bigSep_congr fun c _ => by unfold made; rw [bigSep_univ_prod, h3]; rfl
  iintro HX
  imod (Rounds.fund ER (rd m) allCells allRights) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- What is the device's own from then on: its places in the rounds, the rights it uses, its local copies' counters. -/
def mine (c : Dev nD) : sProp 𝕄 :=
  iprop((bigSep Finset.univ fun k : Cell => atPos ER (kcell (c, k)) 0 ∅ 0) ∗ used c ∗ locals c)

/-- Each device's start: its own, and the records all share. -/
def begun (c : Dev nD) : sProp 𝕄 := iprop(∃ K, records m K ∗ mine c)

/-- A device's counters at zero and its part of the ghost state become the invariants of its cells; the local copies' counters stay with it. -/
theorem cells_open (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Cell => iprop(∃ κ : ℕ, cellInv ER (rd m) κ (kcell (c, k))))
          ∗ (bigSep Finset.univ fun k : Cell => iprop(atPos ER (kcell (c, k)) 0 ∅ 0 ∗ reached ER (kcell (c, k)) 0)) ∗ made c ∗ locals c) := by
  have hv : (bigSep Finset.univ fun k : Cell => (semVal (kcell (c, k)) 0 : sProp 𝕄))
      = iprop(semVal (barCell c) 0 ∗ (bigSep Finset.univ fun k => semVal (sendCell c k) 0) ∗ bigSep Finset.univ fun k => semVal (recvCell c k) 0) :=
    bigSep_cells _
  have hin : iprop((bigSep Finset.univ fun k : Cell => semVal (kcell (c, k)) 0) ∗ bigSep Finset.univ fun k : Cell => roundState ER (rd m) (kcell (c, k)) 0)
      ⊢ (|={Set.univ}=> bigSep Finset.univ fun k : Cell => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  rw [hv] at hin
  rw [ownSems0_eq, unscopedSems0_eq]
  unfold dealt
  iintro ⟨⟨Hl, Hs, Hr⟩, Hb, Hst, Hat, Htok⟩
  imod hin $$ [Hb Hs Hr Hst] with Hinv
  · isplitr [Hst]
    · isplitl [Hb]; · iexact Hb
      isplitl [Hs] <;> iassumption
    · iexact Hst
  imodintro
  isplitl [Hinv]; · iexact Hinv
  isplitl [Hat]; · iexact Hat
  isplitl [Htok] <;> iassumption

/-- The invariants of all devices become records that all share, and each right goes to the device that pays with it. -/
theorem share_out :
    (bigSep Finset.univ fun c : Dev nD => iprop((bigSep Finset.univ fun k : Cell => iprop(∃ κ : ℕ, cellInv ER (rd m) κ (kcell (c, k))))
          ∗ (bigSep Finset.univ fun k : Cell => iprop(atPos ER (kcell (c, k)) 0 ∅ 0 ∗ reached ER (kcell (c, k)) 0)) ∗ made c ∗ locals c) : sProp 𝕄)
      ⊢ bigSep Finset.univ (begun m) := by
  rw [bigSep_sep', bigSep_sep', bigSep_sep', ← bigSep_univ_prod (fun ck : Dev nD × Cell => iprop(∃ κ : ℕ, cellInv ER (rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok, Hl⟩
  ihave HK := (BI.bigSep_exists_pi Finset.univ (fun (ck : Dev nD × Cell) (κ : ℕ) => (cellInv ER (rd m) κ (kcell ck) : sProp 𝕄))) $$ HI
  icases HK with ⟨%K, #HI⟩
  ihave Hu := (rights_move (F := F)) $$ Htok
  have hg (c : Dev nD) : iprop(records m K ∗ mine c) ⊢ begun m c := by
    unfold begun; iintro H; iexists K; iexact H
  iapply (bigSep_with_persistent (S := Finset.univ) (R := records m K) fun c _ => hg c)
  isplitr
  · unfold records; isplitl; · iexact HI
    iexact HR
  · unfold mine
    rw [bigSep_sep', bigSep_sep']
    isplitl [Hat]; · iexact Hat
    isplitl [Hu] <;> iassumption

/-- The global step of the launch. -/
theorem all_begun : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (begun m) :=
  ((bigSep_mono fun c _ => cells_open m c).trans (bigSep_fupd _ _)).trans (BI.fupd_mono (share_out m))

/-! ## The credit at launch -/

/-- How many of the last `n` turns of `d` go to `c`, -/
def hits (d c : Dev nD) : Nat → Nat
  | 0 => 0
  | n + 1 => hits d c n + if c = dst d (turn n) then 1 else 0
/-- and how many of these at distance `k`. -/
def hitsAt (d c : Dev nD) (k : Fin 8) : Nat → Nat
  | 0 => 0
  | n + 1 => hitsAt d c k n + if c = dst d (turn n) ∧ k = turn n then 1 else 0

/-- Barrier cells are the same only on the same device. -/
theorem bar_eq_iff {a b : Dev nD} : barCell a = barCell b ↔ a = b :=
  ⟨fun h => congrArg (fun g : GSem nD τ sig => g.1.1) h, fun h => h ▸ rfl⟩
/-- Receive cells are the same only on the same device at the same distance. -/
theorem recv_eq_iff {a b : Dev nD} {k l : Fin 8} : recvCell a k = recvCell b l ↔ a = b ∧ k = l :=
  ⟨fun h => ⟨congrArg (fun g : GSem nD τ sig => g.1.1) h, recv_inj (congrArg Prod.snd h)⟩, fun h => by rw [h.1, h.2]⟩
/-- No barrier cell is a receive cell. -/
theorem bar_ne_recv (a b : Dev nD) (k : Fin 8) : barCell a ≠ recvCell b k := fun h => by cases congrArg Prod.snd h

/-- The blocks to be sent owe a barrier nothing. -/
theorem Osend_bar (d c : Dev nD) (n : Nat) : Osend d n (barCell c) () = 0 := by
  induction n with
  | zero => rfl
  | succ n ih =>
    unfold Osend
    rw [Pi.add_apply, Finsupp.add_apply, ih, tallyAt_apply, if_neg fun h => bar_ne_recv _ _ _ h.1]
/-- What device `d` owes the barrier of `c` is one unit for each of its last `n` turns that goes there. -/
theorem Osig_bar (d c : Dev nD) (n : Nat) : Osig d n (barCell c) () = hits d c n := by
  induction n with
  | zero => exact Osend_bar d c 7
  | succ n ih =>
    unfold Osig hits
    rw [Pi.add_apply, Finsupp.add_apply, ih, tallyAt_apply]
    simp only [bar_eq_iff, and_true]
/-- What the last `n` blocks of `d` owe a receive cell of `c` is a block's credit for each turn that goes there. -/
theorem Osend_recv (d c : Dev nD) (k : Fin 8) (n : Nat) : Osend d n (recvCell c k) () = hitsAt d c k n * N := by
  induction n with
  | zero => exact (Nat.zero_mul _).symm
  | succ n ih =>
    unfold Osend hitsAt
    rw [Pi.add_apply, Finsupp.add_apply, ih, tallyAt_apply, Nat.add_mul]
    simp only [recv_eq_iff, and_true]
    by_cases h : c = dst d (turn n) ∧ k = turn n
    · rw [if_pos h, if_pos h, Nat.one_mul]
    · rw [if_neg h, if_neg h, Nat.zero_mul]
/-- Owing barrier units too changes nothing of that. -/
theorem Osig_recv (d c : Dev nD) (k : Fin 8) (n : Nat) : Osig d n (recvCell c k) () = hitsAt d c k 7 * N := by
  induction n with
  | zero => exact Osend_recv d c k 7
  | succ n ih =>
    unfold Osig
    rw [Pi.add_apply, Finsupp.add_apply, ih, tallyAt_apply, if_neg fun h => bar_ne_recv _ _ _ h.1.symm, Nat.add_zero]

set_option maxRecDepth 8000 in
/-- Seven turns of all devices together go to each device, -/
theorem hits_sum (c : Dev nD) : ∑ d : Dev nD, hits d c 7 = 7 := by revert c; decide
set_option maxRecDepth 8000 in
/-- and one of these at each distance but zero. -/
theorem hitsAt_sum (c : Dev nD) (k : Fin 8) (h : k ≠ 0) : ∑ d : Dev nD, hitsAt d c k 7 = 1 := by revert c k; decide

/-- At launch a barrier has the credit of seven units, -/
theorem launch_bar (c : Dev nD) :
    tallyOn (barCell c) (launchCredit (Pipeline.owing fun d : Dev nD => Osig d 7) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => Osig_bar d c 7, hits_sum]
/-- and a receive cell that of one block. -/
theorem launch_recv (c : Dev nD) (k : Fin 8) (h : k ≠ 0) :
    tallyOn (recvCell c k) (launchCredit (Pipeline.owing fun d : Dev nD => Osig d 7) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => Osig_recv d c k 7, ← Finset.sum_mul, hitsAt_sum c k h, Nat.one_mul]

/-- The credit on the device's own cells. -/
def credits (c : Dev nD) : sProp 𝕄 :=
  iprop(cred (tallyAt (barCell c) () 7) ∗ seven fun k => cred (tallyAt (recvCell c k) () N))

/-- Families that agree at the seven distances have the same seven resources. -/
theorem seven_congr {Φ Ψ : Fin 8 → sProp 𝕄} (h : ∀ k, k ≠ 0 → Φ k = Ψ k) : seven Φ = seven Ψ := by
  show iprop(Φ 1 ∗ Φ 2 ∗ Φ 3 ∗ Φ 4 ∗ Φ 5 ∗ Φ 6 ∗ Φ 7) = iprop(Ψ 1 ∗ Ψ 2 ∗ Ψ 3 ∗ Ψ 4 ∗ Ψ 5 ∗ Ψ 6 ∗ Ψ 7)
  rw [h 1 (by decide), h 2 (by decide), h 3 (by decide), h 4 (by decide), h 5 (by decide), h 6 (by decide), h 7 (by decide)]

/-- What all devices owe device `c` at launch is the credit it waits with. -/
theorem credits_intro (c : Dev nD) : (Pipeline.launchCred (fun d : Dev nD => Osig d 7) c : sProp 𝕄) ⊢ credits c := by
  let Φ : SemLoc sig → sProp 𝕄 := fun sm => cred (tallyOn ((c : Thread nD τ), sm) (launchCredit (Pipeline.owing fun d : Dev nD => Osig d 7) 0 ((c : Thread nD τ), sm)))
  have h1 : bigSep Finset.univ Φ ⊢ bigSep (Finset.univ.map ⟨csem, csem_injective⟩) Φ := bigSep_subset (Finset.subset_univ _)
  have h2 : bigSep (Finset.univ.map ⟨csem, csem_injective⟩) Φ
      = iprop(Φ (csem none) ∗ (bigSep Finset.univ fun k => Φ (csem (some (false, k)))) ∗ bigSep Finset.univ fun k => Φ (csem (some (true, k)))) := by
    rw [bigSep_map]; exact bigSep_cells (fun k => Φ (csem k))
  have h3 : (seven fun k => Φ (csem (some (true, k)))) = seven fun k => (cred (tallyAt (recvCell c k) () N) : sProp 𝕄) := by
    exact seven_congr fun k h => congrArg cred (launch_recv c k h)
  have h4 : Φ (csem none) = cred (tallyAt (barCell c) () 7) := congrArg cred (launch_bar c)
  refine (show Pipeline.launchCred _ c ⊢ bigSep Finset.univ Φ from .rfl).trans (h1.trans ?_)
  rw [h2, h4, bigSep_eight (fun k => Φ (csem (some (true, k)))), h3]
  unfold credits
  iintro ⟨Hb, -, -, Hr⟩
  isplitl [Hb] <;> iassumption

end Cert.KernelIdeal.Exchange
-- ==== Proof.Launch.lean ====
/-
The launch: from what each device is dealt and its scratch buffers the body is entered, and what it leaves is what the
pipeline takes back.
-/
module

public import proofs.«01_k».proof.Proof.Deal

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The scratch buffers as slots -/

/-- Some array in slot `k` of the gathered blocks, -/
abbrev roomB (c : Dev nD) (k : Fin 8) : sProp 𝕄 := iprop(∃ v, ownsTc c (xgS k.val k.isLt) fullShare v)
/-- in slot `i` of the blocks fetched, -/
abbrev roomT (c : Dev nD) (i : Nat) (h : i < 2) : sProp 𝕄 := iprop(∃ v, ownsTc c (stS i h) fullShare v)
/-- in slot `i` of the chunks fetched. -/
abbrev roomF (c : Dev nD) (i : Nat) (h : i < 2) : sProp 𝕄 := iprop(∃ v, ownsTc c (wfS i h) fullShare v)

/-- All the slots. -/
def rooms (c : Dev nD) : sProp 𝕄 :=
  iprop(bigSep Finset.univ (roomB c) ∗ seven (sendPay c) ∗ (roomT c 0 z2 ∗ roomT c 1 o2) ∗ (roomF c 0 z2 ∗ roomF c 1 o2) ∗ (freeW c 0 z2 ∗ freeW c 1 o2))

/-- The scratch memory is the five buffers, holding anything. -/
theorem scratch_eq (c : Dev nD) : (Pipeline.scopedRest (Ix := Unit) (Name := ℕ) (U := UU) (Lvl := ℕ) (Val := Elt F) (τ := τ) cfg0.spec c : sProp 𝕄)
    = iprop((∃ X, ownsTc c xgM fullShare X) ∗ (∃ X, ownsTc c xsM fullShare X) ∗ (∃ X, ownsTc c stM fullShare X)
        ∗ (∃ X, ownsTc c wfM fullShare X) ∗ (∃ X, ownsTc c wbM fullShare X)) := by
  rw [show Pipeline.scopedRest (Ix := Unit) (Name := ℕ) (U := UU) (Lvl := ℕ) (Val := Elt F) (τ := τ) cfg0.spec c = _ from scopedRest0_eq c]
  simp only [owns_whole]
  rfl

/-- The slots of the gathered blocks, one for each distance; -/
theorem slots_xg (c : Dev nD) : bigSep Finset.univ (inSlot (F := F) c xgM squeezes_S1x1024x1024_S1024x1024) = bigSep Finset.univ (roomB c) := rfl
/-- the slots of the blocks sent, each under the distance it serves; -/
theorem slots_xs (c : Dev nD) : bigSep Finset.univ (inSlot (F := F) c xsM squeezes_S1x1024x1024_S1024x1024) = seven (sendPay c) := by
  have h : ∀ (k : Fin 8) (hk : (k.val + 6) % 7 < 7), sendPay (F := F) c k = inSlot c xsM squeezes_S1x1024x1024_S1024x1024 ⟨(k.val + 6) % 7, hk⟩ := fun _ _ => rfl
  unfold seven
  rw [h 1 (by decide), h 2 (by decide), h 3 (by decide), h 4 (by decide), h 5 (by decide), h 6 (by decide), h 7 (by decide)]
  exact bigSep_univ_eq_bigSepL [0, 1, 2, 3, 4, 5, 6] (by decide) (by decide) _
/-- the two slots of the blocks fetched; -/
theorem slots_st (c : Dev nD) : bigSep Finset.univ (inSlot (F := F) c stM squeezes_S1x1024x1024_S1024x1024) = iprop(roomT c 0 z2 ∗ roomT c 1 o2) :=
  bigSep_univ_two _
/-- the two slots of the chunks fetched; -/
theorem slots_wf (c : Dev nD) : bigSep Finset.univ (inSlot (F := F) c wfM squeezes_S1x128x4096_S128x4096) = iprop(roomF c 0 z2 ∗ roomF c 1 o2) :=
  bigSep_univ_two _
/-- the two slots of the chunks narrowed. -/
theorem slots_wb (c : Dev nD) : bigSep Finset.univ (inSlot (F := F) c wbM squeezes_S1x128x4096_S128x4096) = iprop(freeW c 0 z2 ∗ freeW c 1 o2) :=
  bigSep_univ_two _

/-- The scratch memory can be taken apart into its slots, -/
theorem rooms_split (c : Dev nD) : (Pipeline.scopedRest cfg0.spec c : sProp 𝕄) ⊢ rooms c := by
  rw [scratch_eq]
  unfold rooms
  rw [← slots_xg, ← slots_xs, ← slots_st, ← slots_wf, ← slots_wb]
  iintro ⟨H1, H2, H3, H4, H5⟩
  isplitl [H1]; · iapply (stack_split c xgM _); iexact H1
  isplitl [H2]; · iapply (stack_split c xsM _); iexact H2
  isplitl [H3]; · iapply (stack_split c stM _); iexact H3
  isplitl [H4]; · iapply (stack_split c wfM _); iexact H4
  iapply (stack_split c wbM _); iexact H5

/-- and the slots put together into the scratch memory. -/
theorem rooms_join (c : Dev nD) : rooms c ⊢ (Pipeline.scopedRest cfg0.spec c : sProp 𝕄) := by
  rw [scratch_eq]
  unfold rooms
  rw [← slots_xg, ← slots_xs, ← slots_st, ← slots_wf, ← slots_wb]
  iintro ⟨H1, H2, H3, H4, H5⟩
  isplitl [H1]; · iapply (stack_join c xgM squeezes_S1x1024x1024_S1024x1024); iexact H1
  isplitl [H2]; · iapply (stack_join c xsM squeezes_S1x1024x1024_S1024x1024); iexact H2
  isplitl [H3]; · iapply (stack_join c stM squeezes_S1x1024x1024_S1024x1024); iexact H3
  isplitl [H4]; · iapply (stack_join c wfM squeezes_S1x128x4096_S128x4096); iexact H4
  iapply (stack_join c wbM squeezes_S1x128x4096_S128x4096); iexact H5

/-! ## Into the body and out of it -/

/-- The seven resources are those of all distances but zero. -/
theorem seven_eq (Φ : Fin 8 → sProp 𝕄) : seven Φ = bigSep (Finset.univ.erase 0) Φ :=
  (bigSep_eq_bigSepL_of_eq [1, 2, 3, 4, 5, 6, 7] (by decide) (by decide) Φ).symm
/-- Seven pairs are two sevens. -/
theorem seven_sep (Φ Ψ : Fin 8 → sProp 𝕄) : (seven fun k => iprop(Φ k ∗ Ψ k)) = iprop(seven Φ ∗ seven Ψ) := by
  rw [seven_eq, seven_eq, seven_eq, bigSep_sep']

/-- The arguments, whole, at what they held at launch. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- Each argument is shared between the copies into the two slots, -/
theorem args_split (c : Dev nD) : args m c ⊢ iprop((xShare m c 0 ∗ xShare m c 1) ∗ (wShare m c 0 ∗ wShare m c 1)) := by
  unfold args
  iintro ⟨HX, HW⟩
  isplitl [HX]
  · iapply (pointsTo_share (PosShare.mem_left_op_right fullShare)).1; iexact HX
  · iapply (pointsTo_share (PosShare.mem_left_op_right fullShare)).1; iexact HW
/-- and the two shares are the argument again. -/
theorem args_join (c : Dev nD) : iprop((xShare m c 0 ∗ xShare m c 1) ∗ (wShare m c 0 ∗ wShare m c 1)) ⊢ args m c := by
  unfold args
  iintro ⟨HX, HW⟩
  isplitl [HX]
  · iapply (pointsTo_share (PosShare.mem_left_op_right fullShare)).2; iexact HX
  · iapply (pointsTo_share (PosShare.mem_left_op_right fullShare)).2; iexact HW

/-- What a device starts from, its scratch buffers apart. -/
def start (c : Dev nD) : sProp 𝕄 := iprop(begun m c ∗ credits c ∗ levAts L lv ∗ args m c)
/-- What it gives back beside them and its own semaphores. -/
def kept (c : Dev nD) : sProp 𝕄 := iprop(unscopedSems0 c ∗ args m c)

/-- The slots for gathered blocks counted by the way back: own slot first, then that which each other device is to fill. -/
theorem rooms_back (c : Dev nD) : bigSep Finset.univ (roomB (F := F) c) = iprop(roomB c 0 ∗ seven fun k => roomB c (back k)) :=
  (bigSep_univ_equiv backE (roomB c)).trans (bigSep_eight _)

/-- What the launch gives a device is what the body starts from. -/
theorem enter (K : Dev nD × Cell → ℕ) (c : Dev nD) :
    iprop((records m K ∗ mine c) ∗ (credits c ∗ levAts L lv ∗ args m c) ∗ Pipeline.scopedRest cfg0.spec c ∗ owe c (Osig c 7) ∗ ∃ o, sofar c o)
      ⊢ before m K c := by
  have hp : seven (ping (F := F) c) = iprop((seven fun k => dutyTok ER (barCell (dst c k)) 0 (back k)) ∗ seven fun k => roomB c (back k)) := seven_sep _ _
  have hs : seven (ship (F := F) c) = iprop((seven fun k => dutyTok ER (sendCell c k) 0 0) ∗ seven fun k => dutyTok ER (recvCell (dst c k) k) 0 0) := seven_sep _ _
  have hd : seven (due (F := F) c) = iprop((seven fun k => cred (tallyAt (recvCell c k) () N)) ∗ seven fun k => atPos ER (recvCell c k) 0 ∅ 0) := seven_sep _ _
  unfold before mine used credits
  rw [hp, hs, hd, bigSep_cells, bigSep_eight, bigSep_eight, bigSep_eight, bigSep_eight, bigSep_eight]
  iintro ⟨⟨#HR, ⟨HA, ⟨HA0, HAs⟩, HB0, HBs⟩, ⟨⟨-, Hb⟩, ⟨-, Hs⟩, -, Hr⟩, Hl⟩, ⟨⟨HCb, HCr⟩, #HL, Ha⟩, Hsc, HO, Ho⟩
  ihave Hrm := (rooms_split (F := F) c) $$ Hsc
  ihave Hsh := (args_split m c) $$ Ha
  icases Hsh with ⟨⟨HX0, HX1⟩, HW0, HW1⟩
  unfold rooms
  rw [rooms_back]
  icases Hrm with ⟨⟨Hm0, Hms⟩, Hxs, ⟨Ht0, Ht1⟩, ⟨Hf0, Hf1⟩, Hw0, Hw1⟩
  unfold locals
  icases Hl with ⟨⟨Hv0, Hv1⟩, Hu0, Hu1⟩
  isplitr; · iexact HR
  isplitr; · iexact HL
  isplitl [HO]; · iexact HO
  isplitl [HCb]; · iexact HCb
  isplitl [HA]; · iexact HA
  isplitl [Hb Hms]; · isplitl [Hb] <;> iassumption
  isplitl [Hs Hr]; · isplitl [Hs] <;> iassumption
  isplitl [Hxs]; · iexact Hxs
  isplitl [HCr HBs]; · isplitl [HCr] <;> iassumption
  isplitl [HAs]; · iexact HAs
  isplitl [HA0]; · iexact HA0
  isplitl [HB0]; · iexact HB0
  have e0 : (roomB (F := F) c 0 : sProp 𝕄) ⊢ iprop(∃ v, ownsTc c (xgS 0 (by decide)) fullShare v) := .rfl
  isplitl [Hm0]; · iapply e0; iexact Hm0
  unfold idleX idleW
  isplitl [Ht0 HX0 Hu0]
  · isplitl [Ht0]; · iexact Ht0
    isplitl [HX0] <;> iassumption
  isplitl [Ht1 HX1 Hu1]
  · isplitl [Ht1]; · iexact Ht1
    isplitl [HX1] <;> iassumption
  isplitl [Hf0 HW0 Hv0]
  · isplitl [Hf0]; · iexact Hf0
    isplitl [HW0] <;> iassumption
  isplitl [Hf1 HW1 Hv1]
  · isplitl [Hf1]; · iexact Hf1
    isplitl [HW1] <;> iassumption
  isplitl [Hw0]; · iexact Hw0
  isplitl [Hw1]; · iexact Hw1
  iexact Ho

/-- A slot with a landed block in it is a slot holding something. -/
theorem got_room (c : Dev nD) (k : Fin 8) : recvPay m c k ⊢ (roomB c k : sProp 𝕄) := by
  unfold recvPay
  iintro H; iexists _; iexact H

/-- What the body ends with is the result, nothing owed, the arguments as they were, every counter at zero and the scratch memory. -/
theorem leave (c : Dev nD) :
    after m c ⊢ iprop(sofar c (acc m c 63) ∗ owe c 0 ∗ kept m c ∗ Pipeline.ownSems0 osem c ∗ Pipeline.scopedRest cfg0.spec c) := by
  have hg : bigSep Finset.univ (got m c) = iprop(bigSep Finset.univ (recvPay m c) ∗ bigSep Finset.univ fun k => semVal (recvCell c k) 0) := bigSep_sep' _ _ _
  have hn : seven (sent (F := F) c) = iprop((seven fun k => semVal (sendCell c k) 0) ∗ seven (sendPay c)) := seven_sep _ _
  have hb : bigSep Finset.univ (recvPay m c) ⊢ bigSep Finset.univ (roomB c) := bigSep_mono fun k _ => got_room m c k
  unfold after kept
  rw [ownSems0_eq, unscopedSems0_eq, hg, hn, bigSep_eight (fun k => semVal (sendCell c k) 0)]
  iintro ⟨Ho, HO, Hbar, Hs0, ⟨Hm, Hrs⟩, ⟨Hss, Hxs⟩, Hx0, Hx1, Hy0, Hy1, Hw0, Hw1⟩
  unfold idleX idleW
  icases Hx0 with ⟨Ht0, HX0, Hu0⟩
  icases Hx1 with ⟨Ht1, HX1, Hu1⟩
  icases Hy0 with ⟨Hf0, HW0, Hv0⟩
  icases Hy1 with ⟨Hf1, HW1, Hv1⟩
  isplitl [Ho]; · iexact Ho
  isplitl [HO]; · iexact HO
  isplitl [Hbar HX0 HX1 HW0 HW1]
  · isplitl [Hbar]; · iexact Hbar
    iapply (args_join m c)
    isplitl [HX0 HX1]
    · isplitl [HX0] <;> iassumption
    · isplitl [HW0] <;> iassumption
  isplitl [Hs0 Hss Hrs Hu0 Hu1 Hv0 Hv1]
  · isplitl [Hu0 Hu1 Hv0 Hv1]
    · unfold locals
      isplitl [Hv0 Hv1]
      · isplitl [Hv0] <;> iassumption
      · isplitl [Hu0] <;> iassumption
    isplitl [Hs0 Hss]
    · isplitl [Hs0] <;> iassumption
    iexact Hrs
  iapply (rooms_join (F := F) c)
  unfold rooms
  isplitl [Hm]; · iapply hb; iexact Hm
  isplitl [Hxs]; · iexact Hxs
  isplitl [Ht0 Ht1]
  · isplitl [Ht0] <;> iassumption
  isplitl [Hf0 Hf1]
  · isplitl [Hf0] <;> iassumption
  isplitl [Hw0] <;> iassumption

/-! ## The pipeline's data -/

variable (ρ : Dev nD → PrngReg)

/-- The machine at launch. -/
abbrev s₀ : MemSt nD τ sig (Elt F) := ⟨m, fun _ => 0, ρ⟩

/-- The grid has one point. -/
theorem one_point : cfg0.N = 1 := by decide
/-- That point. -/
def t₀ : Fin cfg0.N := ⟨0, by rw [one_point]; decide⟩
/-- There is no other. -/
theorem point_eq (t : Fin cfg0.N) : t = t₀ := by
  obtain ⟨t, ht⟩ := t
  have := one_point
  exact Fin.ext (by simp only [t₀]; omega)

/-- What a device has when the pipeline starts, -/
def Φ₀ (c : Dev nD) : sProp 𝕄 := iprop(start m c ∗ Pipeline.scopedRest cfg0.spec c)
/-- and when it has ended. -/
def Φ₁ (c : Dev nD) : sProp 𝕄 := iprop(kept m c ∗ Pipeline.ownSems0 osem c ∗ Pipeline.scopedRest cfg0.spec c)

/-- The pipeline's data: the arrays at launch, the result after the one point, what the device has before and after it, and what it owes. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => acc m c 63
  Φ t := match t with
    | ⟨0, _⟩ => Φ₀ m c
    | ⟨_ + 1, _⟩ => Φ₁ m c
  q _ := fullShare
  owed t := match t with
    | ⟨0, _⟩ => Osig c 7
    | ⟨_ + 1, _⟩ => 0

/-- Each window is held whole. -/
theorem share_eq (c : Dev nD) (w : Fin cfg0.W) : (dats m ρ 0 c).share w = fullShare := by
  unfold Pipeline.Dat.share; split <;> rfl

set_option maxRecDepth 4000 in
/-- What the pipeline hands the body, -/
def bodyPre (c : Dev nD) : sProp 𝕄 :=
  iprop(Φ₀ m c ∗ (dats m ρ 0 c).owesAt () t₀.castSucc ∗ ∃ d, sofar c ((dats m ρ 0 c).before (0 : Fin 1) t₀ d))
set_option maxRecDepth 4000 in
/-- and what it takes back. -/
def bodyPost (c : Dev nD) : sProp 𝕄 :=
  iprop(Φ₁ m c ∗ (dats m ρ 0 c).owesAt () t₀.succ ∗ sofar c (acc m c 63))

/-- The body takes a device from the one to the other. -/
theorem body_run (c : Dev nD) (h0 : xM.IsWhole) (h1 : wM.IsWhole) (h2 : oM.IsWhole) (h3 : xgM.IsWhole) (h4 : xsM.IsWhole) (h5 : stM.IsWhole)
    (h6 : wfM.IsWhole) (h7 : wbM.IsWhole) :
    bodyPre m ρ c ⊢ wp frame (wpE (defs₀ (F := F)) 𝒱₀ (c : Thread nD τ) none) Set.univ
      (cc0_body (F := F) xM h0 wM h1 oM h2 xgM h3 xsM h4 stM h5 wfM h6 wbM h7 cc0_scratch5 cc0_scratch6 cc0_scratch7 cc0_scratch8)
      (fun _ => bodyPost m ρ c) := by
  unfold bodyPre Φ₀ start begun
  iintro ⟨⟨⟨⟨%K, Hg⟩, Hrest⟩, Hscr⟩, Ho, %d, Hout⟩
  unfold Pipeline.Dat.owesAt Pipeline.owesWithin
  icases Ho with ⟨%W, %hW, HO⟩
  rw [show (dats m ρ 0 c).owed t₀.castSucc = Osig c 7 from rfl]
  iapply (((enter m K c).trans (wp_body m K c h0 h1 h2 h3 h4 h5 h6 h7)).trans (wp_wand frame (wpE (defs₀ (F := F)) 𝒱₀ (c : Thread nD τ) none) Set.univ
    (Q' := fun _ => bodyPost m ρ c))) $$ [Hg Hrest Hscr HO Hout]
  · isplitl [Hg]; · iexact Hg
    isplitl [Hrest]; · iexact Hrest
    isplitl [Hscr]; · iexact Hscr
    isplitl [HO]
    · iexists W; iexact HO
    · iexists _; iexact Hout
  · iintro %r H
    ihave H := (leave m c) $$ H
    unfold bodyPost Φ₁
    icases H with ⟨Ho, ⟨%W', HO⟩, Hk, Hs, Hr⟩
    isplitl [Hk Hs Hr]
    · isplitl [Hk]; · iexact Hk
      isplitl [Hs] <;> iassumption
    isplitl [HO]
    · iexists W'
      isplitr; · ipureintro; exact fun _ _ => Or.inl trivial
      iexact HO
    iexact Ho

set_option maxRecDepth 8000 in
/-- So the body does what the pipeline asks of it at every point. -/
theorem body_obligation (c : Dev nD) : Pipeline.BodyObligation (dats (F := F) m ρ 0 c) (defs₀ (F := F)) 𝒱₀ () Set.univ := fun t => by
  rw [point_eq t]
  rw [bigSep_W0, bigSep_W0]
  exact body_run m ρ c _ _ _ _ _ _ _ _

end Cert.KernelIdeal.Exchange
-- ==== Proof.Run.lean ====
/-
The run: the whole program over any float values, from the launch to the final memory.
-/
module

public import proofs.«01_k».proof.Proof.Launch
public import Idealize.ShloMosaic.Lib.Pipeline.ValueKit.Geometry
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## The theorem's side conditions -/

/-- What the launch deals a device beside its scratch memory is its start. -/
theorem start_intro (c : Dev nD) :
    iprop(Pipeline.unscopedRestP Pipeline.Prefetch.none cfg0.spec c (fun b => m ((c : Thread nD τ).loc b)) ∗ levAts L lv
        ∗ Pipeline.launchCred (fun d => Osig d 7) c ∗ prngReg c (ρ c) ∗ begun m c)
      ⊢ |={Set.univ}=> iprop(start m c ∗ emp) := by
  rw [Pipeline.unscopedRestP_none, unscopedRest0_eq]
  iintro ⟨Ha, Hlev, Hcr, -, HG⟩
  ihave Hc := (credits_intro (F := F) c) $$ Hcr
  imodintro
  unfold start args
  isplitl
  · isplitl [HG]; · iexact HG
    isplitl [Hc]; · iexact Hc
    isplitl [Hlev] <;> iassumption
  · iempintro

/-- With the scratch memory it is what the pipeline starts from. -/
theorem phi_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

/-- What the pipeline ends with is what a device gives back, its semaphores and its scratch memory. -/
theorem phi_exit (c : Dev nD) :
    (dats m ρ 0 c).Φ (Fin.last cfg0.N) ⊢ iprop(kept m c ∗ Pipeline.ownSems0 osem c ∗ Pipeline.scopedRest cfg0.spec c) := .rfl

set_option maxRecDepth 8000 in
/-- The kernel's own semaphores are different from each other and from the pipeline's. -/
theorem own_sems : Pipeline.OwnSemFacts cfg0.spec osem := by decide

/-- The pipeline's own copies may be waited for wherever the pipeline waits: before the body, with all owed, and after it, with nothing owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_sig c _ (by fin_cases w <;> fin_cases s <;> decide) 7
    · show _ ⊢ MayWait _ _ () 0
      rw [MayWait_zero]; iintro -; iempintro

/-- What is read off the final memory besides the result: the other semaphores at zero and the arguments as they were. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

/-- From what a device gives back: in the final memory its arguments are as they were and its other semaphores at zero. -/
theorem read_left (c : Dev nD) (s' : Phys nD τ sig (Elt F)) :
    iprop(kept m c ∗ emp ∗ SI s') ⊢ |={Set.univ}=> (iprop(⌜Left m c s'.mem⌝ ∗ SI s') : sProp 𝕄) := by
  unfold kept args
  iintro ⟨⟨Hs, HX, HW⟩, -, HSI⟩
  icombine HSI HX gives %hX
  icombine HSI HW gives %hW
  have hr : iprop(unscopedSems0 c ∗ SI s') ⊢ |={Set.univ}=> (iprop(⌜∀ sm : SemLoc sig, sm.isScoped .tc = false → s'.mem.sem ((c.tc : Thread nD τ), sm) = 0⌝ ∗ SI s') : sProp 𝕄) :=
    Pipeline.unscopedSems0_read (X := unscopedSems0 c) (c := c) fupd_intro s'
  imod hr $$ [Hs HSI] with ⟨%hs, HSI⟩
  · isplitl [Hs] <;> iassumption
  imodintro
  isplitr
  · ipureintro; exact ⟨hs, Buf.eq_of_forall_mem_univ hX, Buf.eq_of_forall_mem_univ hW⟩
  iexact HSI

/-- The result array after the run: the accumulator after the sixty-fourth product. -/
theorem result_eq (c : Dev nD) : (dats m ρ 0 c).arrAt (0 : Fin 1) cfg0.N = acc m c 63 :=
  (dats m ρ 0 c).arrAt_eq_of_after_last (0 : Fin 1) t₀ (by decide +kernel) (acc m c 63) (fun j => rfl) (arr_whole0 0)

/-- What a run ends with: on each device the result is the accumulator after all products, the arguments are what they were, and no semaphore counts. -/
def Done (r : PUnit × MemSt nD τ sig (Elt F)) : Prop :=
  (∀ c : Dev nD, r.2.mem ((c.tc : Thread nD τ).loc main_v1) = acc m c 63
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

/-- The rounds' part of the kernel's ghost state is the part that the cells' rules speak of. -/
theorem rounds_part (x : UB) :
    (BI.own ((embR : Emb (UB × Counters) 𝕄) (x, 1)) : sProp 𝕄) ⊢ BI.own ((ER : Emb UB 𝕄) x) := .rfl

set_option maxRecDepth 8000 in
/-- Over any float values, from any memory with zero counters, the eight devices' programs end, and end `Done`. -/
theorem run_main : θ_run defs (onTc (τ := τ) (main (F := F))) (s₀ m ρ) (Done m) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl) (hbody := body_obligation m ρ) (hne := fun w => by fin_cases w <;> exact Nat.succ_pos _)
    (harr := arr_whole0) (hstage := stage_whole0) (hshare := share_eq m ρ) (hdistinct := winFacts0.arr_inj)
    (O₀ := fun d => Osig d 7) (howed₀ := fun _ => rfl) (howedN := fun _ => rfl) (L := L) (lv := lv) (hL := L_of_ne) (hwaits := waits m ρ)
    (G := dealt m) (G' := begun m) (u₀ := u₀)
    (hu₀ := by
      unfold u₀
      iintro Hu
      ihave H := (ownU_pair _ _) $$ Hu
      icases H with ⟨HP, HX⟩
      ihave HX := (rounds_part (F := F) _) $$ HX
      imod (deal m) $$ HX with HG
      imodintro
      isplitl [HP] <;> iassumption)
    (hglob := all_begun m) (hA := fun _ _ => rfl) (hpf := fun _ k => k.elim0)
    (X := start m) (Y := kept m) (Z := fun _ => iprop(emp))
    (hX := start_intro m ρ) (hin := phi_intro m ρ) (hout := phi_exit m ρ)
    (QY := Left m) (hY := read_left m)
    (hQ := fun s h hs => ⟨fun c => ⟨((h c).1 0).trans (result_eq m ρ c), (h c).2.2.2⟩, sem_eq_zero hs fun c => (h c).2.2.1⟩)

end Cert.KernelIdeal.Exchange
-- ==== Proof.Value.lean ====
/-
Over the reals: what the accumulator holds after the sixty-four products is the device's block of rows of the whole product.
-/
module

public import proofs.«01_k».proof.Proof.Steps
public import proofs.«01_k».proof.Proof.Gen.ReferenceIdeal
public import Idealize.ShloMosaic.Lib.MatmulPlain
public import Idealize.ShloMosaic.Lib.StackMember
public import Idealize.ShloMosaic.Lib.Layout

@[expose] public section

noncomputable section

namespace Cert.KernelIdeal.Exchange

open Cert.KernelIdeal Cert.KernelIdeal.Gen
open Idealize.ShloMosaic Idealize.ShloMosaic.TcCoe Idealize.ShloMosaic.ValueIdx
open scoped BigOperators

/-! ## Sums over ranges -/

/-- A sum over `a` stretches of `b` numbers is the sum over all of them. -/
theorem sum_stretches (g : ℕ → EReal) (b : ℕ) :
    ∀ a : ℕ, ∑ i ∈ Finset.range a, ∑ j ∈ Finset.range b, g (b * i + j) = ∑ n ∈ Finset.range (b * a), g n
  | 0 => by simp
  | a + 1 => by rw [Finset.sum_range_succ, sum_stretches g b a, Nat.mul_succ, Finset.sum_range_add]

/-- Going round the ring backwards from any device visits every device once. -/
theorem sum_round (G : ℕ → EReal) (c : ℕ) (hc : c < 8) :
    ∑ t ∈ Finset.range 8, G ((c + 8 - t) % 8) = ∑ p ∈ Finset.range 8, G p := by
  refine Finset.sum_nbij' (fun t => (c + 8 - t) % 8) (fun p => (c + 8 - p) % 8) ?_ ?_ ?_ ?_ ?_
  · intro t ht; simp only [Finset.mem_range] at ht ⊢; omega
  · intro t ht; simp only [Finset.mem_range] at ht ⊢; omega
  · intro t ht; simp only [Finset.mem_range] at ht; omega
  · intro t ht; simp only [Finset.mem_range] at ht; omega
  · intro t ht; rfl

/-- The stretches in the order in which a device takes them. -/
theorem sum_order (f : ℕ → EReal) (c : ℕ) (hc : c < 8) :
    ∑ n ∈ Finset.range 64, ∑ k ∈ Finset.range 128, f (1024 * ((c + 8 - n / 8) % 8) + 128 * (n % 8) + k)
      = ∑ K ∈ Finset.range 8192, f K := by
  have h1 := sum_stretches (fun n => ∑ k ∈ Finset.range 128, f (1024 * ((c + 8 - n / 8) % 8) + 128 * (n % 8) + k)) 8 8
  rw [show (64 : ℕ) = 8 * 8 from rfl, ← h1]
  have h2 : ∀ i ∈ Finset.range 8,
      (∑ j ∈ Finset.range 8, ∑ k ∈ Finset.range 128, f (1024 * ((c + 8 - (8 * i + j) / 8) % 8) + 128 * ((8 * i + j) % 8) + k))
        = ∑ q ∈ Finset.range 1024, f (1024 * ((c + 8 - i) % 8) + q) := by
    intro i _
    rw [show (1024 : ℕ) = 128 * 8 from rfl, ← sum_stretches (fun q => f (128 * 8 * ((c + 8 - i) % 8) + q)) 128 8]
    refine Finset.sum_congr rfl fun j hj => Finset.sum_congr rfl fun k _ => ?_
    have hj' : j < 8 := Finset.mem_range.mp hj
    rw [show (8 * i + j) / 8 = i by omega, show (8 * i + j) % 8 = j by omega, Nat.add_assoc]
  rw [Finset.sum_congr rfl h2, sum_round (fun p => ∑ q ∈ Finset.range 1024, f (1024 * p + q)) c hc, sum_stretches f 1024 8]

/-! ## The products -/

variable (m : (ℓ : Loc nD τ sig) → Buf (Elt Ideal) ℓ)

/-- The `K`-th product of the entry in row `i` and column `q`. -/
def entry (x : (⟨2, ![8192, 8192]⟩ : Shape).Idx → EReal) (w : (⟨2, ![8192, 4096]⟩ : Shape).Idx → EReal) (i : Fin 8192) (q : Fin 4096) (K : ℕ) : EReal :=
  x (ix2 i ⟨K % 8192, Nat.mod_lt _ (by decide)⟩) * w (ix2 ⟨K % 8192, Nat.mod_lt _ (by decide)⟩ q)

/-- The whole product, read at an entry. -/
theorem whole_apply (x : (⟨2, ![8192, 8192]⟩ : Shape).Idx → EReal) (w : (⟨2, ![8192, 4096]⟩ : Shape).Idx → EReal) (i : Fin 8192) (q : Fin 4096) :
    Host.dotGeneral (F := Ideal) (φ₁ := .f32) (φ₂ := .f32) Cert.ReferenceIdeal.dot_S8192x8192_S8192x4096_S8192x4096_1_0_0_1_n_n none x w (ix2 i q)
      = ∑ K ∈ Finset.range 8192, entry x w i q K := by
  rw [Finset.sum_range]
  refine (StackMember.dotGeneral_plain_apply (m := 8192) (k := 8192) (n := 4096) (φ₁ := .f32) (φ₂ := .f32) none x w i q).trans ?_
  refine Finset.sum_congr rfl fun K _ => ?_
  unfold entry
  rw [show (⟨K.val % 8192, Nat.mod_lt _ (by decide)⟩ : Fin 8192) = K from Fin.ext (Nat.mod_eq_of_lt K.isLt)]

/-- A product of `128` columns and `128` rows, read at an entry. -/
theorem mm_apply (a : S1024x1024.Idx → EReal) (n : Nat) (b : S128x4096.Idx → EReal) (r : Fin 1024) (q : Fin 4096) :
    mm (F := Ideal) a n b (ix2 r q)
      = ∑ k : Fin 128, a (ix2 r ⟨(n + k.val) % 1024, Nat.mod_lt _ (by decide)⟩) * b (ix2 k q) := by
  have h := Ideal.matmul_plain_apply (M := 1024) (K := 128) (N := 4096) (φ₁ := .bf16) (φ₂ := .bf16) none (colsAt a n) b
    (constant S1024x4096 .f32 0x00000000#32) r q
  refine Eq.trans (show mm (F := Ideal) a n b (ix2 r q) = _ from h) ?_
  rw [show constant (F := Ideal) S1024x4096 .f32 0x00000000#32 (ix2 r q) = (0 : EReal) from Ideal.ofBits_zero_f32, zero_add]
  refine Finset.sum_congr rfl fun k _ => ?_
  unfold colsAt
  congr 1
  refine congrArg a (funext fun d => ?_)
  match d with
  | ⟨0, _⟩ => rfl
  | ⟨1, _⟩ => rfl

variable {x : (⟨2, ![8192, 8192]⟩ : Shape).Idx → EReal} {w : (⟨2, ![8192, 4096]⟩ : Shape).Idx → EReal}

/-- The row of the whole result that is row `r` of device `c`'s. -/
def wholeRow (c : Dev nD) (r : Fin 1024) : Fin 8192 := ⟨1024 * c.val + r.val, by have h : c.val < 8 := c.isLt; have := r.isLt; omega⟩

/-- The `n`-th product of device `c`, read at an entry: `128` of the products of the whole's entry. -/
theorem term_apply (hx : ∀ p : Dev nD, X m p = Layout.block ⟨2, ![8192, 1024]⟩ ⟨2, ![8192, 8192]⟩ 1 8 p x)
    (hw : ∀ p : Dev nD, W m p = w) (c : Dev nD) (n : ℕ) (hn : n < 64) (r : Fin 1024) (q : Fin 4096) :
    term m c n (ix2 r q)
      = ∑ k ∈ Finset.range 128, entry x w (wholeRow c r) q (1024 * ((c.val + 8 - n / 8) % 8) + 128 * (n % 8) + k) := by
  have hc : c.val < 8 := c.isLt
  rw [Finset.sum_range]
  unfold term
  refine (mm_apply _ _ _ r q).trans (Finset.sum_congr rfl fun k _ => ?_)
  have hk := k.isLt
  have hr := r.isLt
  have hp : (c.val + (8 - n / 8 % 8)) % 8 = (c.val + 8 - n / 8) % 8 := by omega
  unfold entry
  congr 1
  · show xRows (X m (src c _)) (1024 * c.val) _ = _
    unfold xRows
    rw [hx, Layout.block_apply]
    refine congrArg x (funext fun a => Fin.ext ?_)
    match a with
    | ⟨0, _⟩ =>
      show (1024 * c.val + r.val) % 8192 = 1024 * c.val + r.val
      omega
    | ⟨1, _⟩ =>
      show (c.val + (8 - n / 8 % 8)) % 8 * 1024 + (128 * (n % 8) + k.val) % 1024 = (1024 * ((c.val + 8 - n / 8) % 8) + 128 * (n % 8) + k.val) % 8192
      omega
  · show wRows (W m c) (row c (n / 8) (n % 8)) _ = _
    unfold wRows
    rw [hw]
    refine congrArg w (funext fun a => Fin.ext ?_)
    match a with
    | ⟨0, _⟩ => rfl
    | ⟨1, _⟩ => rfl

/-- The products up to the `n`-th, read at an entry. -/
theorem acc_apply (c : Dev nD) (j : S1024x4096.Idx) : ∀ n : ℕ, acc m c n j = ∑ i ∈ Finset.range (n + 1), (term m c i j : EReal)
  | 0 => by rw [Finset.sum_range_one]; rfl
  | n + 1 => by
    rw [Finset.sum_range_succ, ← acc_apply c j n]
    rfl

/-- Device `c`'s result is its block of rows of the whole product. -/
theorem value (hx : ∀ p : Dev nD, X m p = Layout.block ⟨2, ![8192, 1024]⟩ ⟨2, ![8192, 8192]⟩ 1 8 p x)
    (hw : ∀ p : Dev nD, W m p = w) (c : Dev nD) :
    acc m c 63 = Layout.block ⟨2, ![1024, 4096]⟩ ⟨2, ![8192, 4096]⟩ 0 8 c
      (Host.dotGeneral (F := Ideal) (φ₁ := .f32) (φ₂ := .f32) Cert.ReferenceIdeal.dot_S8192x8192_S8192x4096_S8192x4096_1_0_0_1_n_n none x w) := by
  funext j
  obtain ⟨r, q, rfl⟩ : ∃ (r : Fin 1024) (q : Fin 4096), j = ix2 r q := ⟨j 0, j 1, eq_ix2 j⟩
  have hc : c.val < 8 := c.isLt
  have hi : ∀ h : Layout.Tiles ⟨2, ![1024, 4096]⟩ ⟨2, ![8192, 4096]⟩ 0 8, h.idx c (ix2 r q) = ix2 (wholeRow c r) q := by
    intro h
    refine funext fun a => Fin.ext ?_
    match a with
    | ⟨0, _⟩ =>
      show c.val * 1024 + r.val = 1024 * c.val + r.val
      omega
    | ⟨1, _⟩ => rfl
  rw [Layout.block_apply, hi, whole_apply, acc_apply m c (ix2 r q) 63, ← sum_order _ c.val hc]
  exact Finset.sum_congr rfl fun n hn => term_apply m hx hw c n (Finset.mem_range.mp hn) r q

end Cert.KernelIdeal.Exchange
-- ==== Proof.lean ====
/-
The proof of `Cert.Claim`: the frames of the three programs, and that over the reals the kernel's result on each device is
that device's block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.KernelIdeal

/-! ## The two prints of the kernel are one program -/

section
variable {F : FTy → Type} [FloatOps F]

/-- The kernel's body table is the idealized kernel's, -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (_, _) => rfl
  | ⟨_ + 1, h⟩, _ => exact absurd h (Nat.not_lt.2 (Nat.le_add_left _ _))

/-- and so is its table of regions. -/
theorem tables_eq : Cert.Kernel.defs (F := F) = Cert.KernelIdeal.defs (F := F) :=
  congrArg (Pipeline.defs Cert.KernelIdeal.pcfgs) bodies_eq

end

/-! ## The claims -/

/-- The kernel over the machine's floats runs, keeps its arguments and ends with no semaphore counting: the run is the idealized kernel's, which is stated over any float values. -/
theorem frame_kernel : Cert.quiescent_Kernel := fun m g _ => by
  have h := (θ_run (Cert.KernelIdeal.defs (F := Bits)) _ _).mono (fun _ h => (⟨fun c => (h.1 c).2, h.2⟩ : _ ∧ _))
    (Exchange.run_main (F := Bits) m g)
  rw [← tables_eq] at h
  exact h

/-- So does the idealized kernel. -/
theorem frame_kernelIdeal : Cert.quiescent_KernelIdeal := fun m g _ =>
  (θ_run Cert.KernelIdeal.defs _ _).mono (fun _ h => ⟨fun c => (h.1 c).2, h.2⟩) (Exchange.run_main (F := Ideal) m g)

/-- So does the reference. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the reals, from arguments of which each device has its part, each device's result is its block of rows of the reference's. -/
theorem algebraic : Cert.algebraic_KernelIdeal_ReferenceIdeal := fun m g m' g' _ h =>
  ⟨_, (θ_run Cert.KernelIdeal.defs _ _).mono
      (fun _ hr c => ⟨((hr.1 c).1).trans (Exchange.value m (fun p => (h p).1) (fun p => (h p).2) c), (hr.1 c).2⟩)
      (Exchange.run_main (F := Ideal) m g),
    (θ_run Cert.ReferenceIdeal.defs _ _).mono (fun _ hr => hr 0) (Cert.ReferenceIdeal.Value.run (F := Ideal) m' g')⟩

/-- All the claims together. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
